-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_points_and_draws [hPre_points_and_draws : Cert.Pre_points_and_draws.Facts] (m : (ℓ : Loc Cert.KernelIdeal.nD Cert.KernelIdeal.τ Cert.KernelIdeal.sig) → Buf (Elt Ideal) ℓ) : Prop :=
  ∀ c : Dev Cert.KernelIdeal.nD,
    (Cert.Pre_points_and_draws.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_points_and_draws [hPre_points_and_draws : Cert.Pre_points_and_draws.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_points_and_draws.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_points_and_draws [hKernelIdeal : Cert.KernelIdeal.Facts] [hPre_points_and_draws : Cert.Pre_points_and_draws.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_points_and_draws m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_points_and_draws [hReferenceIdeal : Cert.ReferenceIdeal.Facts] [hPre_points_and_draws : Cert.Pre_points_and_draws.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_points_and_draws m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_points_and_draws [hKernelIdeal : Cert.KernelIdeal.Facts] [hReferenceIdeal : Cert.ReferenceIdeal.Facts] [hPre_points_and_draws : Cert.Pre_points_and_draws.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_points_and_draws m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v180) = v0 c
          ∧ r.2.mem ((c.tc : Thread Cert.ReferenceIdeal.nD Cert.ReferenceIdeal.τ).loc Cert.ReferenceIdeal.main_v150) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_points_and_draws : Cert.Pre_points_and_draws.Facts),
    quiescent_Kernel (hKernel := hKernel)
    ∧ quiescent_KernelIdeal (hKernelIdeal := hKernelIdeal)
    ∧ quiescent_KernelIdeal_pre_points_and_draws (hKernelIdeal := hKernelIdeal) (hPre_points_and_draws := hPre_points_and_draws)
    ∧ quiescent_ReferenceIdeal (hReferenceIdeal := hReferenceIdeal)
    ∧ quiescent_ReferenceIdeal_pre_points_and_draws (hReferenceIdeal := hReferenceIdeal) (hPre_points_and_draws := hPre_points_and_draws)
    ∧ preserves_Kernel_KernelIdeal
    ∧ algebraic_KernelIdeal_ReferenceIdeal_pre_points_and_draws (hKernelIdeal := hKernelIdeal) (hReferenceIdeal := hReferenceIdeal) (hPre_points_and_draws := hPre_points_and_draws)
-- ==== Pre_points_and_draws.lean ====
abbrev S4x8192x32 : Shape := ⟨3, ![4, 8192, 32]⟩
abbrev S4x512x1 : Shape := ⟨3, ![4, 512, 1]⟩
abbrev S4x512x4 : Shape := ⟨3, ![4, 512, 4]⟩
abbrev S_ : Shape := ⟨0, ![]⟩

class Facts : Prop where
  bcast_S_S4x8192x32 : S_.BroadcastsInDim S4x8192x32 (![] : Fin 0 → Fin S4x8192x32.rank)
  reducesTo_S4x8192x32_S_d0_1_2 : S4x8192x32.ReducesTo [0, 1, 2] S_
  h_S_ : 0 < S_.numel
  bcast_S_S4x512x1 : S_.BroadcastsInDim S4x512x1 (![] : Fin 0 → Fin S4x512x1.rank)
  reducesTo_S4x512x1_S_d0_1_2 : S4x512x1.ReducesTo [0, 1, 2] S_
  bcast_S_S4x512x4 : S_.BroadcastsInDim S4x512x4 (![] : Fin 0 → Fin S4x512x4.rank)
  reducesTo_S4x512x4_S_d0_1_2 : S4x512x4.ReducesTo [0, 1, 2] S_

variable [Facts]

def fn_part1 {F : FTy → Type} [FloatOps F] (main_v10 : IVec S_ 1) (main_v15 : IVec S4x512x4 1) (main_c_5 : IVec S_ 1) : IVec S_ 1 :=
  let main_v16 : IVec S_ 1 := (fun x v => Host.reduce IntOp.andi x v reducesTo_S4x512x4_S_d0_1_2 h_S_) main_v15 main_c_5
  let main_v17 : IVec S_ 1 := andi main_v10 main_v16
  main_v17

def fn {F : FTy → Type} [FloatOps F] (main_arg0 : FVec F S4x8192x32 .f32) (main_arg1 : IVec S4x512x1 32) (main_arg2 : IVec S4x512x4 32) : IVec S_ 1 :=
  let main_v0 : FVec F S4x8192x32 .f32 := Host.absf main_arg0
  let main_cst : FVec F S_ .f32 := constant S_ .f32 0x7F800000#32
  let main_v1 : FVec F S4x8192x32 .f32 := broadcastInDim S4x8192x32 ![] bcast_S_S4x8192x32 main_cst
  let main_v2 : IVec S4x8192x32 1 := cmpf .olt main_v0 main_v1
  let main_c : IVec S_ 1 := constantI S_ 1 1#1
  let main_v3 : IVec S_ 1 := (fun x v => Host.reduce IntOp.andi x v reducesTo_S4x8192x32_S_d0_1_2 h_S_) main_v2 main_c
  let main_c_0 : IVec S_ 32 := constantI S_ 32 0#32
  let main_v4 : IVec S4x512x1 32 := broadcastInDim S4x512x1 ![] bcast_S_S4x512x1 main_c_0
  let main_v5 : IVec S4x512x1 1 := cmpi .sge main_arg1 main_v4
  let main_c_1 : IVec S_ 32 := constantI S_ 32 8192#32
  let main_v6 : IVec S4x512x1 32 := broadcastInDim S4x512x1 ![] bcast_S_S4x512x1 main_c_1
  let main_v7 : IVec S4x512x1 1 := cmpi .slt main_arg1 main_v6
  let main_v8 : IVec S4x512x1 1 := andi main_v5 main_v7
  let main_c_2 : IVec S_ 1 := constantI S_ 1 1#1
  let main_v9 : IVec S_ 1 := (fun x v => Host.reduce IntOp.andi x v reducesTo_S4x512x1_S_d0_1_2 h_S_) main_v8 main_c_2
  let main_v10 : IVec S_ 1 := andi main_v3 main_v9
  let main_c_3 : IVec S_ 32 := constantI S_ 32 0#32
  let main_v11 : IVec S4x512x4 32 := broadcastInDim S4x512x4 ![] bcast_S_S4x512x4 main_c_3
  let main_v12 : IVec S4x512x4 1 := cmpi .sge main_arg2 main_v11
  let main_c_4 : IVec S_ 32 := constantI S_ 32 8192#32
  let main_v13 : IVec S4x512x4 32 := broadcastInDim S4x512x4 ![] bcast_S_S4x512x4 main_c_4
  let main_v14 : IVec S4x512x4 1 := cmpi .slt main_arg2 main_v13
  let main_v15 : IVec S4x512x4 1 := andi main_v12 main_v14
  let main_c_5 : IVec S_ 1 := constantI S_ 1 1#1
  fn_part1 (F := F) main_v10 main_v15 main_c_5
-- ==== Kernel.lean ====
abbrev S4x8192x32 : Shape := ⟨3, ![4, 8192, 32]⟩
abbrev S4x512x1 : Shape := ⟨3, ![4, 512, 1]⟩
abbrev S4x512x4 : Shape := ⟨3, ![4, 512, 4]⟩
abbrev S_ : Shape := ⟨0, ![]⟩
abbrev S4x8192x1 : Shape := ⟨3, ![4, 8192, 1]⟩
abbrev S4x8192x33 : Shape := ⟨3, ![4, 8192, 33]⟩
abbrev S4x32x8192 : Shape := ⟨3, ![4, 32, 8192]⟩
abbrev S4x512x32 : Shape := ⟨3, ![4, 512, 32]⟩
abbrev S4x1x8192 : Shape := ⟨3, ![4, 1, 8192]⟩
abbrev S1x8192x33 : Shape := ⟨3, ![1, 8192, 33]⟩
abbrev S1x32x8192 : Shape := ⟨3, ![1, 32, 8192]⟩
abbrev S1x512x1 : Shape := ⟨3, ![1, 512, 1]⟩
abbrev S1x512x4 : Shape := ⟨3, ![1, 512, 4]⟩
abbrev S1x512x32 : Shape := ⟨3, ![1, 512, 32]⟩
abbrev S1x1x8192 : Shape := ⟨3, ![1, 1, 8192]⟩
abbrev S512x1 : Shape := ⟨2, ![512, 1]⟩
abbrev S512x4 : Shape := ⟨2, ![512, 4]⟩
abbrev S512x2048 : Shape := ⟨2, ![512, 2048]⟩
abbrev S512x33 : Shape := ⟨2, ![512, 33]⟩
abbrev S1x2048x33 : Shape := ⟨3, ![1, 2048, 33]⟩
abbrev S2048x33 : Shape := ⟨2, ![2048, 33]⟩
abbrev S512x32 : Shape := ⟨2, ![512, 32]⟩
abbrev S512 : Shape := ⟨1, ![512]⟩
abbrev S1x32x2048 : Shape := ⟨3, ![1, 32, 2048]⟩
abbrev S32x2048 : Shape := ⟨2, ![32, 2048]⟩
abbrev S2048 : Shape := ⟨1, ![2048]⟩
abbrev S1x2048 : Shape := ⟨2, ![1, 2048]⟩
abbrev S1 : Shape := ⟨1, ![1]⟩
abbrev S1x1x1 : Shape := ⟨3, ![1, 1, 1]⟩
abbrev S1x1x2048 : Shape := ⟨3, ![1, 1, 2048]⟩
abbrev S4x8192 : Shape := ⟨2, ![4, 8192]⟩

abbrev nBuf : Space → Nat
  | .hbm => 10
  | .vmem => 12
  | .smem => 0
  | _ => 0

abbrev bufTy : (tb : Table) → Fin (tcTables nBuf tb) → BufTy
  | .hbm, ⟨0, _⟩ => ⟨S4x8192x32, .f32⟩
  | .hbm, ⟨1, _⟩ => ⟨S4x512x1, .i32⟩
  | .hbm, ⟨2, _⟩ => ⟨S4x512x4, .i32⟩
  | .hbm, ⟨3, _⟩ => ⟨S_, .f32⟩
  | .hbm, ⟨4, _⟩ => ⟨S4x8192x1, .f32⟩
  | .hbm, ⟨5, _⟩ => ⟨S4x8192x33, .f32⟩
  | .hbm, ⟨6, _⟩ => ⟨S4x32x8192, .f32⟩
  | .hbm, ⟨7, _⟩ => ⟨S4x512x32, .f32⟩
  | .hbm, ⟨8, _⟩ => ⟨S4x1x8192, .i32⟩
  | .hbm, ⟨9, _⟩ => ⟨S4x8192, .i32⟩
  | .local _ .vmem, ⟨0, _⟩ => ⟨S1x8192x33, .f32⟩
  | .local _ .vmem, ⟨1, _⟩ => ⟨S1x8192x33, .f32⟩
  | .local _ .vmem, ⟨2, _⟩ => ⟨S1x32x8192, .f32⟩
  | .local _ .vmem, ⟨3, _⟩ => ⟨S1x32x8192, .f32⟩
  | .local _ .vmem, ⟨4, _⟩ => ⟨S1x512x1, .i32⟩
  | .local _ .vmem, ⟨5, _⟩ => ⟨S1x512x1, .i32⟩
  | .local _ .vmem, ⟨6, _⟩ => ⟨S1x512x4, .i32⟩
  | .local _ .vmem, ⟨7, _⟩ => ⟨S1x512x4, .i32⟩
  | .local _ .vmem, ⟨8, _⟩ => ⟨S1x512x32, .f32⟩
  | .local _ .vmem, ⟨9, _⟩ => ⟨S1x512x32, .f32⟩
  | .local _ .vmem, ⟨10, _⟩ => ⟨S1x1x8192, .i32⟩
  | .local _ .vmem, ⟨11, _⟩ => ⟨S1x1x8192, .i32⟩
  | _, _ => ⟨S4x8192x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8192x33 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x4 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x8192 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S4x8192x32 : Shape := ⟨3, ![4, 8192, 32]⟩
abbrev S4x512x1 : Shape := ⟨3, ![4, 512, 1]⟩
abbrev S4x512x4 : Shape := ⟨3, ![4, 512, 4]⟩
abbrev S4x512 : Shape := ⟨2, ![4, 512]⟩
abbrev S4x512x32 : Shape := ⟨3, ![4, 512, 32]⟩
abbrev S_ : Shape := ⟨0, ![]⟩
abbrev S4x512x32x1 : Shape := ⟨4, ![4, 512, 32, 1]⟩
abbrev S1 : Shape := ⟨1, ![1]⟩
abbrev S1x1x1x1 : Shape := ⟨4, ![1, 1, 1, 1]⟩
abbrev S4x8192 : Shape := ⟨2, ![4, 8192]⟩
abbrev S4x8192x1 : Shape := ⟨3, ![4, 8192, 1]⟩
abbrev S4x1x512 : Shape := ⟨3, ![4, 1, 512]⟩
abbrev S4x8192x512 : Shape := ⟨3, ![4, 8192, 512]⟩
abbrev S4 : Shape := ⟨1, ![4]⟩
abbrev S4x1 : Shape := ⟨2, ![4, 1]⟩
abbrev S32768 : Shape := ⟨1, ![32768]⟩
abbrev S32768x32 : Shape := ⟨2, ![32768, 32]⟩
abbrev S2048x32 : Shape := ⟨2, ![2048, 32]⟩
abbrev S32768x1 : Shape := ⟨2, ![32768, 1]⟩
abbrev S2048 : Shape := ⟨1, ![2048]⟩

abbrev nBuf : Space → Nat
  | .hbm => 354
  | .vmem => 0
  | .smem => 0
  | _ => 0

abbrev hbmTy0_0 (i : Nat) : BufTy := match i % 128 with
  | 0 => ⟨S4x8192x32, .f32⟩
  | 1 => ⟨S4x512x1, .i32⟩
  | 2 => ⟨S4x512x4, .i32⟩
  | 3 => ⟨S4x512, .i32⟩
  | 4 => ⟨S4x512x1, .i32⟩
  | 5 => ⟨S4x512x32, .i32⟩
  | 6 => ⟨S_, .i32⟩
  | 7 => ⟨S4x512x32, .i32⟩
  | 8 => ⟨S4x512x32, .i1⟩
  | 9 => ⟨S_, .i32⟩
  | 10 => ⟨S4x512x32, .i32⟩
  | 11 => ⟨S4x512x32, .i32⟩
  | 12 => ⟨S4x512x32, .i32⟩
  | 13 => ⟨S4x512x32x1, .i32⟩
  | 14 => ⟨S1, .i32⟩
  | 15 => ⟨S_, .i32⟩
  | 16 => ⟨S4x512x32x1, .i32⟩
  | 17 => ⟨S4x512x32x1, .i1⟩
  | 18 => ⟨S1x1x1x1, .i32⟩
  | 19 => ⟨S4x512x32x1, .i32⟩
  | 20 => ⟨S4x512x32x1, .i1⟩
  | 21 => ⟨S4x512x32x1, .i1⟩
  | 22 => ⟨S_, .i1⟩
  | 23 => ⟨S4x512x32, .i1⟩
  | 24 => ⟨S4x512x32, .f32⟩
  | 25 => ⟨S_, .f32⟩
  | 26 => ⟨S4x512x32, .f32⟩
  | 27 => ⟨S4x512x32, .f32⟩
  | 28 => ⟨S_, .i32⟩
  | 29 => ⟨S4x8192, .i32⟩
  | 30 => ⟨S4x8192x32, .f32⟩
  | 31 => ⟨S_, .f32⟩
  | 32 => ⟨S4x8192, .f32⟩
  | 33 => ⟨S4x8192x1, .f32⟩
  | 34 => ⟨S4x512x32, .f32⟩
  | 35 => ⟨S_, .f32⟩
  | 36 => ⟨S4x512, .f32⟩
  | 37 => ⟨S4x1x512, .f32⟩
  | 38 => ⟨S4x8192x512, .f32⟩
  | 39 => ⟨S4x8192x512, .f32⟩
  | 40 => ⟨S4x8192x512, .f32⟩
  | 41 => ⟨S4x8192x512, .f32⟩
  | 42 => ⟨S_, .f32⟩
  | 43 => ⟨S4x8192x512, .f32⟩
  | 44 => ⟨S4x8192x512, .f32⟩
  | 45 => ⟨S4x8192x512, .f32⟩
  | 46 => ⟨S4x8192x512, .i32⟩
  | 47 => ⟨S_, .f32⟩
  | 48 => ⟨S_, .i32⟩
  | 49 => ⟨S4x8192, .f32⟩
  | 50 => ⟨S4x8192, .i32⟩
  | 51 => ⟨S4x512x1, .i32⟩
  | 52 => ⟨S4x512, .i32⟩
  | 53 => ⟨S4, .i32⟩
  | 54 => ⟨S4x1, .i32⟩
  | 55 => ⟨S_, .i32⟩
  | 56 => ⟨S4x1, .i32⟩
  | 57 => ⟨S4x1, .i32⟩
  | 58 => ⟨S4x8192, .i32⟩
  | 59 => ⟨S4x8192, .i32⟩
  | 60 => ⟨S32768, .i32⟩
  | 61 => ⟨S32768x32, .f32⟩
  | 62 => ⟨S_, .f32⟩
  | 63 => ⟨S2048x32, .f32⟩
  | 64 => ⟨S32768x1, .i32⟩
  | 65 => ⟨S2048x32, .f32⟩
  | 66 => ⟨S4x512x32, .f32⟩
  | 67 => ⟨S_, .f32⟩
  | 68 => ⟨S32768, .f32⟩
  | 69 => ⟨S_, .f32⟩
  | 70 => ⟨S2048, .f32⟩
  | 71 => ⟨S32768x1, .i32⟩
  | 72 => ⟨S2048, .f32⟩
  | 73 => ⟨S4x512, .f32⟩
  | 74 => ⟨S_, .f32⟩
  | 75 => ⟨S_, .f32⟩
  | 76 => ⟨S4x512, .f32⟩
  | 77 => ⟨S4x512, .f32⟩
  | 78 => ⟨S4x512x1, .f32⟩
  | 79 => ⟨S4x512x32, .f32⟩
  | 80 => ⟨S4x512x32, .f32⟩
  | 81 => ⟨S_, .f32⟩
  | 82 => ⟨S4x512, .f32⟩
  | 83 => ⟨S4x512, .i1⟩
  | 84 => ⟨S4x512x1, .i1⟩
  | 85 => ⟨S4x512x1, .i32⟩
  | 86 => ⟨S4x512x32, .i32⟩
  | 87 => ⟨S_, .i32⟩
  | 88 => ⟨S4x512x32, .i32⟩
  | 89 => ⟨S4x512x32, .i1⟩
  | 90 => ⟨S_, .i32⟩
  | 91 => ⟨S4x512x32, .i32⟩
  | 92 => ⟨S4x512x32, .i32⟩
  | 93 => ⟨S4x512x32, .i32⟩
  | 94 => ⟨S4x512x32x1, .i32⟩
  | 95 => ⟨S1, .i32⟩
  | 96 => ⟨S_, .i32⟩
  | 97 => ⟨S4x512x32x1, .i32⟩
  | 98 => ⟨S4x512x32x1, .i1⟩
  | 99 => ⟨S1x1x1x1, .i32⟩
  | 100 => ⟨S4x512x32x1, .i32⟩
  | 101 => ⟨S4x512x32x1, .i1⟩
  | 102 => ⟨S4x512x32x1, .i1⟩
  | 103 => ⟨S_, .i1⟩
  | 104 => ⟨S4x512x32, .i1⟩
  | 105 => ⟨S4x512x32, .f32⟩
  | 106 => ⟨S_, .f32⟩
  | 107 => ⟨S4x512x32, .f32⟩
  | 108 => ⟨S4x512x32, .f32⟩
  | 109 => ⟨S4x512x32, .i1⟩
  | 110 => ⟨S4x512x32, .f32⟩
  | 111 => ⟨S4x8192x32, .f32⟩
  | 112 => ⟨S_, .f32⟩
  | 113 => ⟨S4x8192, .f32⟩
  | 114 => ⟨S4x8192x1, .f32⟩
  | 115 => ⟨S4x512x32, .f32⟩
  | 116 => ⟨S_, .f32⟩
  | 117 => ⟨S4x512, .f32⟩
  | 118 => ⟨S4x1x512, .f32⟩
  | 119 => ⟨S4x8192x512, .f32⟩
  | 120 => ⟨S4x8192x512, .f32⟩
  | 121 => ⟨S4x8192x512, .f32⟩
  | 122 => ⟨S4x8192x512, .f32⟩
  | 123 => ⟨S_, .f32⟩
  | 124 => ⟨S4x8192x512, .f32⟩
  | 125 => ⟨S4x8192x512, .f32⟩
  | 126 => ⟨S4x8192x512, .f32⟩
  | 127 => ⟨S4x8192x512, .i32⟩
  | _ => ⟨S4x8192x32, .f32⟩

abbrev hbmTy0_1 (i : Nat) : BufTy := match i % 128 with
  | 0 => ⟨S_, .f32⟩
  | 1 => ⟨S_, .i32⟩
  | 2 => ⟨S4x8192, .f32⟩
  | 3 => ⟨S4x8192, .i32⟩
  | 4 => ⟨S4x512x1, .i32⟩
  | 5 => ⟨S4x512, .i32⟩
  | 6 => ⟨S4, .i32⟩
  | 7 => ⟨S4x1, .i32⟩
  | 8 => ⟨S_, .i32⟩
  | 9 => ⟨S4x1, .i32⟩
  | 10 => ⟨S4x1, .i32⟩
  | 11 => ⟨S4x8192, .i32⟩
  | 12 => ⟨S4x8192, .i32⟩
  | 13 => ⟨S32768, .i32⟩
  | 14 => ⟨S32768x32, .f32⟩
  | 15 => ⟨S_, .f32⟩
  | 16 => ⟨S2048x32, .f32⟩
  | 17 => ⟨S32768x1, .i32⟩
  | 18 => ⟨S2048x32, .f32⟩
  | 19 => ⟨S4x512x32, .f32⟩
  | 20 => ⟨S_, .f32⟩
  | 21 => ⟨S32768, .f32⟩
  | 22 => ⟨S_, .f32⟩
  | 23 => ⟨S2048, .f32⟩
  | 24 => ⟨S32768x1, .i32⟩
  | 25 => ⟨S2048, .f32⟩
  | 26 => ⟨S4x512, .f32⟩
  | 27 => ⟨S_, .f32⟩
  | 28 => ⟨S_, .f32⟩
  | 29 => ⟨S4x512, .f32⟩
  | 30 => ⟨S4x512, .f32⟩
  | 31 => ⟨S4x512x1, .f32⟩
  | 32 => ⟨S4x512x32, .f32⟩
  | 33 => ⟨S4x512x32, .f32⟩
  | 34 => ⟨S_, .f32⟩
  | 35 => ⟨S4x512, .f32⟩
  | 36 => ⟨S4x512, .i1⟩
  | 37 => ⟨S4x512x1, .i1⟩
  | 38 => ⟨S4x512x1, .i32⟩
  | 39 => ⟨S4x512x32, .i32⟩
  | 40 => ⟨S_, .i32⟩
  | 41 => ⟨S4x512x32, .i32⟩
  | 42 => ⟨S4x512x32, .i1⟩
  | 43 => ⟨S_, .i32⟩
  | 44 => ⟨S4x512x32, .i32⟩
  | 45 => ⟨S4x512x32, .i32⟩
  | 46 => ⟨S4x512x32, .i32⟩
  | 47 => ⟨S4x512x32x1, .i32⟩
  | 48 => ⟨S1, .i32⟩
  | 49 => ⟨S_, .i32⟩
  | 50 => ⟨S4x512x32x1, .i32⟩
  | 51 => ⟨S4x512x32x1, .i1⟩
  | 52 => ⟨S1x1x1x1, .i32⟩
  | 53 => ⟨S4x512x32x1, .i32⟩
  | 54 => ⟨S4x512x32x1, .i1⟩
  | 55 => ⟨S4x512x32x1, .i1⟩
  | 56 => ⟨S_, .i1⟩
  | 57 => ⟨S4x512x32, .i1⟩
  | 58 => ⟨S4x512x32, .f32⟩
  | 59 => ⟨S_, .f32⟩
  | 60 => ⟨S4x512x32, .f32⟩
  | 61 => ⟨S4x512x32, .f32⟩
  | 62 => ⟨S4x512x32, .i1⟩
  | 63 => ⟨S4x512x32, .f32⟩
  | 64 => ⟨S4x8192x32, .f32⟩
  | 65 => ⟨S_, .f32⟩
  | 66 => ⟨S4x8192, .f32⟩
  | 67 => ⟨S4x8192x1, .f32⟩
  | 68 => ⟨S4x512x32, .f32⟩
  | 69 => ⟨S_, .f32⟩
  | 70 => ⟨S4x512, .f32⟩
  | 71 => ⟨S4x1x512, .f32⟩
  | 72 => ⟨S4x8192x512, .f32⟩
  | 73 => ⟨S4x8192x512, .f32⟩
  | 74 => ⟨S4x8192x512, .f32⟩
  | 75 => ⟨S4x8192x512, .f32⟩
  | 76 => ⟨S_, .f32⟩
  | 77 => ⟨S4x8192x512, .f32⟩
  | 78 => ⟨S4x8192x512, .f32⟩
  | 79 => ⟨S4x8192x512, .f32⟩
  | 80 => ⟨S4x8192x512, .i32⟩
  | 81 => ⟨S_, .f32⟩
  | 82 => ⟨S_, .i32⟩
  | 83 => ⟨S4x8192, .f32⟩
  | 84 => ⟨S4x8192, .i32⟩
  | 85 => ⟨S4x512x1, .i32⟩
  | 86 => ⟨S4x512, .i32⟩
  | 87 => ⟨S4, .i32⟩
  | 88 => ⟨S4x1, .i32⟩
  | 89 => ⟨S_, .i32⟩
  | 90 => ⟨S4x1, .i32⟩
  | 91 => ⟨S4x1, .i32⟩
  | 92 => ⟨S4x8192, .i32⟩
  | 93 => ⟨S4x8192, .i32⟩
  | 94 => ⟨S32768, .i32⟩
  | 95 => ⟨S32768x32, .f32⟩
  | 96 => ⟨S_, .f32⟩
  | 97 => ⟨S2048x32, .f32⟩
  | 98 => ⟨S32768x1, .i32⟩
  | 99 => ⟨S2048x32, .f32⟩
  | 100 => ⟨S4x512x32, .f32⟩
  | 101 => ⟨S_, .f32⟩
  | 102 => ⟨S32768, .f32⟩
  | 103 => ⟨S_, .f32⟩
  | 104 => ⟨S2048, .f32⟩
  | 105 => ⟨S32768x1, .i32⟩
  | 106 => ⟨S2048, .f32⟩
  | 107 => ⟨S4x512, .f32⟩
  | 108 => ⟨S_, .f32⟩
  | 109 => ⟨S_, .f32⟩
  | 110 => ⟨S4x512, .f32⟩
  | 111 => ⟨S4x512, .f32⟩
  | 112 => ⟨S4x512x1, .f32⟩
  | 113 => ⟨S4x512x32, .f32⟩
  | 114 => ⟨S4x512x32, .f32⟩
  | 115 => ⟨S_, .f32⟩
  | 116 => ⟨S4x512, .f32⟩
  | 117 => ⟨S4x512, .i1⟩
  | 118 => ⟨S4x512x1, .i1⟩
  | 119 => ⟨S4x512x1, .i32⟩
  | 120 => ⟨S4x512x32, .i32⟩
  | 121 => ⟨S_, .i32⟩
  | 122 => ⟨S4x512x32, .i32⟩
  | 123 => ⟨S4x512x32, .i1⟩
  | 124 => ⟨S_, .i32⟩
  | 125 => ⟨S4x512x32, .i32⟩
  | 126 => ⟨S4x512x32, .i32⟩
  | 127 => ⟨S4x512x32, .i32⟩
  | _ => ⟨S4x8192x32, .f32⟩

abbrev hbmTy0_2 (i : Nat) : BufTy := match i % 128 with
  | 0 => ⟨S4x512x32x1, .i32⟩
  | 1 => ⟨S1, .i32⟩
  | 2 => ⟨S_, .i32⟩
  | 3 => ⟨S4x512x32x1, .i32⟩
  | 4 => ⟨S4x512x32x1, .i1⟩
  | 5 => ⟨S1x1x1x1, .i32⟩
  | 6 => ⟨S4x512x32x1, .i32⟩
  | 7 => ⟨S4x512x32x1, .i1⟩
  | 8 => ⟨S4x512x32x1, .i1⟩
  | 9 => ⟨S_, .i1⟩
  | 10 => ⟨S4x512x32, .i1⟩
  | 11 => ⟨S4x512x32, .f32⟩
  | 12 => ⟨S_, .f32⟩
  | 13 => ⟨S4x512x32, .f32⟩
  | 14 => ⟨S4x512x32, .f32⟩
  | 15 => ⟨S4x512x32, .i1⟩
  | 16 => ⟨S4x512x32, .f32⟩
  | 17 => ⟨S4x8192x32, .f32⟩
  | 18 => ⟨S_, .f32⟩
  | 19 => ⟨S4x8192, .f32⟩
  | 20 => ⟨S4x8192x1, .f32⟩
  | 21 => ⟨S4x512x32, .f32⟩
  | 22 => ⟨S_, .f32⟩
  | 23 => ⟨S4x512, .f32⟩
  | 24 => ⟨S4x1x512, .f32⟩
  | 25 => ⟨S4x8192x512, .f32⟩
  | 26 => ⟨S4x8192x512, .f32⟩
  | 27 => ⟨S4x8192x512, .f32⟩
  | 28 => ⟨S4x8192x512, .f32⟩
  | 29 => ⟨S_, .f32⟩
  | 30 => ⟨S4x8192x512, .f32⟩
  | 31 => ⟨S4x8192x512, .f32⟩
  | 32 => ⟨S4x8192x512, .f32⟩
  | 33 => ⟨S4x8192x512, .i32⟩
  | 34 => ⟨S_, .f32⟩
  | 35 => ⟨S_, .i32⟩
  | 36 => ⟨S4x8192, .f32⟩
  | 37 => ⟨S4x8192, .i32⟩
  | 38 => ⟨S4x512x1, .i32⟩
  | 39 => ⟨S4x512, .i32⟩
  | 40 => ⟨S4, .i32⟩
  | 41 => ⟨S4x1, .i32⟩
  | 42 => ⟨S_, .i32⟩
  | 43 => ⟨S4x1, .i32⟩
  | 44 => ⟨S4x1, .i32⟩
  | 45 => ⟨S4x8192, .i32⟩
  | 46 => ⟨S4x8192, .i32⟩
  | 47 => ⟨S32768, .i32⟩
  | 48 => ⟨S32768x32, .f32⟩
  | 49 => ⟨S_, .f32⟩
  | 50 => ⟨S2048x32, .f32⟩
  | 51 => ⟨S32768x1, .i32⟩
  | 52 => ⟨S2048x32, .f32⟩
  | 53 => ⟨S4x512x32, .f32⟩
  | 54 => ⟨S_, .f32⟩
  | 55 => ⟨S32768, .f32⟩
  | 56 => ⟨S_, .f32⟩
  | 57 => ⟨S2048, .f32⟩
  | 58 => ⟨S32768x1, .i32⟩
  | 59 => ⟨S2048, .f32⟩
  | 60 => ⟨S4x512, .f32⟩
  | 61 => ⟨S_, .f32⟩
  | 62 => ⟨S_, .f32⟩
  | 63 => ⟨S4x512, .f32⟩
  | 64 => ⟨S4x512, .f32⟩
  | 65 => ⟨S4x512x1, .f32⟩
  | 66 => ⟨S4x512x32, .f32⟩
  | 67 => ⟨S4x512x32, .f32⟩
  | 68 => ⟨S_, .f32⟩
  | 69 => ⟨S4x512, .f32⟩
  | 70 => ⟨S4x512, .i1⟩
  | 71 => ⟨S4x512x1, .i1⟩
  | 72 => ⟨S4x512x1, .i32⟩
  | 73 => ⟨S4x512x32, .i32⟩
  | 74 => ⟨S_, .i32⟩
  | 75 => ⟨S4x512x32, .i32⟩
  | 76 => ⟨S4x512x32, .i1⟩
  | 77 => ⟨S_, .i32⟩
  | 78 => ⟨S4x512x32, .i32⟩
  | 79 => ⟨S4x512x32, .i32⟩
  | 80 => ⟨S4x512x32, .i32⟩
  | 81 => ⟨S4x512x32x1, .i32⟩
  | 82 => ⟨S1, .i32⟩
  | 83 => ⟨S_, .i32⟩
  | 84 => ⟨S4x512x32x1, .i32⟩
  | 85 => ⟨S4x512x32x1, .i1⟩
  | 86 => ⟨S1x1x1x1, .i32⟩
  | 87 => ⟨S4x512x32x1, .i32⟩
  | 88 => ⟨S4x512x32x1, .i1⟩
  | 89 => ⟨S4x512x32x1, .i1⟩
  | 90 => ⟨S_, .i1⟩
  | 91 => ⟨S4x512x32, .i1⟩
  | 92 => ⟨S4x512x32, .f32⟩
  | 93 => ⟨S_, .f32⟩
  | 94 => ⟨S4x512x32, .f32⟩
  | 95 => ⟨S4x512x32, .f32⟩
  | 96 => ⟨S4x512x32, .i1⟩
  | 97 => ⟨S4x512x32, .f32⟩
  | _ => ⟨S4x8192x32, .f32⟩

abbrev hbmTy (i : Nat) : BufTy := match i / 128 with
  | 0 => hbmTy0_0 i
  | 1 => hbmTy0_1 i
  | 2 => hbmTy0_2 i
  | _ => ⟨S4x8192x32, .f32⟩

abbrev bufTy : (tb : Table) → Fin (tcTables nBuf tb) → BufTy
  | .hbm, ⟨i, _⟩ => hbmTy i
  | _, _ => ⟨S4x8192x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_cst : Ref sig .tc := ⟨.hbm, 25, rfl⟩
abbrev main_call0_v14 : Ref sig .tc := ⟨.hbm, 26, rfl⟩
abbrev main_v3 : Ref sig .tc := ⟨.hbm, 27, rfl⟩
abbrev main_c : Ref sig .tc := ⟨.hbm, 28, rfl⟩
abbrev main_v4 : Ref sig .tc := ⟨.hbm, 29, rfl⟩
abbrev main_v5 : Ref sig .tc := ⟨.hbm, 30, rfl⟩
abbrev main_cst : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_cst_0 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_cst_1 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_call1_v0 : Ref sig .tc := ⟨.hbm, 46, rfl⟩
abbrev main_call1_cst : Ref sig .tc := ⟨.hbm, 47, rfl⟩
abbrev main_call1_c : Ref sig .tc := ⟨.hbm, 48, rfl⟩
abbrev main_call1_v1_0 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_c_2 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_cst_3 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_cst_4 : Ref sig .tc := ⟨.hbm, 67, rfl⟩
abbrev main_v33 : Ref sig .tc := ⟨.hbm, 68, rfl⟩
abbrev main_cst_5 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_cst_6 : Ref sig .tc := ⟨.hbm, 74, rfl⟩
abbrev main_call2_v0 : Ref sig .tc := ⟨.hbm, 75, rfl⟩
abbrev main_call2_v1 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_cst_7 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_call3_c : Ref sig .tc := ⟨.hbm, 87, rfl⟩
abbrev main_call3_v0 : Ref sig .tc := ⟨.hbm, 88, rfl⟩
abbrev main_call3_v1 : Ref sig .tc := ⟨.hbm, 89, rfl⟩
abbrev main_call3_c_0 : Ref sig .tc := ⟨.hbm, 90, rfl⟩
abbrev main_call3_v2 : Ref sig .tc := ⟨.hbm, 91, rfl⟩
abbrev main_call3_v3 : Ref sig .tc := ⟨.hbm, 92, rfl⟩
abbrev main_call3_v4 : Ref sig .tc := ⟨.hbm, 93, rfl⟩
abbrev main_call3_v5 : Ref sig .tc := ⟨.hbm, 94, rfl⟩
abbrev main_call3_c_1 : Ref sig .tc := ⟨.hbm, 95, rfl⟩
abbrev main_call3_c_2 : Ref sig .tc := ⟨.hbm, 96, rfl⟩
abbrev main_call3_v6 : Ref sig .tc := ⟨.hbm, 97, rfl⟩
abbrev main_call3_v7 : Ref sig .tc := ⟨.hbm, 98, rfl⟩
abbrev main_call3_v8 : Ref sig .tc := ⟨.hbm, 99, rfl⟩
abbrev main_call3_v9 : Ref sig .tc := ⟨.hbm, 100, rfl⟩
abbrev main_call3_v10 : Ref sig .tc := ⟨.hbm, 101, rfl⟩
abbrev main_call3_v11 : Ref sig .tc := ⟨.hbm, 102, rfl⟩
abbrev main_call3_c_3 : Ref sig .tc := ⟨.hbm, 103, rfl⟩
abbrev main_call3_v12 : Ref sig .tc := ⟨.hbm, 104, rfl⟩
abbrev main_call3_v13 : Ref sig .tc := ⟨.hbm, 105, rfl⟩
abbrev main_call3_cst : Ref sig .tc := ⟨.hbm, 106, rfl⟩
abbrev main_call3_v14 : Ref sig .tc := ⟨.hbm, 107, rfl⟩
abbrev main_v47 : Ref sig .tc := ⟨.hbm, 108, rfl⟩
abbrev main_call4_v0 : Ref sig .tc := ⟨.hbm, 109, rfl⟩
abbrev main_v48 : Ref sig .tc := ⟨.hbm, 110, rfl⟩
abbrev main_v49 : Ref sig .tc := ⟨.hbm, 111, rfl⟩
abbrev main_cst_8 : Ref sig .tc := ⟨.hbm, 112, rfl⟩
abbrev main_v50 : Ref sig .tc := ⟨.hbm, 113, rfl⟩
abbrev main_v51 : Ref sig .tc := ⟨.hbm, 114, rfl⟩
abbrev main_v52 : Ref sig .tc := ⟨.hbm, 115, rfl⟩
abbrev main_cst_9 : Ref sig .tc := ⟨.hbm, 116, rfl⟩
abbrev main_v53 : Ref sig .tc := ⟨.hbm, 117, rfl⟩
abbrev main_v54 : Ref sig .tc := ⟨.hbm, 118, rfl⟩
abbrev main_v55 : Ref sig .tc := ⟨.hbm, 119, rfl⟩
abbrev main_v56 : Ref sig .tc := ⟨.hbm, 120, rfl⟩
abbrev main_v57 : Ref sig .tc := ⟨.hbm, 121, rfl⟩
abbrev main_v58 : Ref sig .tc := ⟨.hbm, 122, rfl⟩
abbrev main_cst_10 : Ref sig .tc := ⟨.hbm, 123, rfl⟩
abbrev main_v59 : Ref sig .tc := ⟨.hbm, 124, rfl⟩
abbrev main_v60 : Ref sig .tc := ⟨.hbm, 125, rfl⟩
abbrev main_v61 : Ref sig .tc := ⟨.hbm, 126, rfl⟩
abbrev main_call5_v0 : Ref sig .tc := ⟨.hbm, 127, rfl⟩
abbrev main_call5_cst : Ref sig .tc := ⟨.hbm, 128, rfl⟩
abbrev main_call5_c : Ref sig .tc := ⟨.hbm, 129, rfl⟩
abbrev main_call5_v1_0 : Ref sig .tc := ⟨.hbm, 130, rfl⟩
abbrev main_v62 : Ref sig .tc := ⟨.hbm, 131, rfl⟩
abbrev main_v63 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_c_11 : Ref sig .tc := ⟨.hbm, 136, rfl⟩
abbrev main_v67 : Ref sig .tc := ⟨.hbm, 137, rfl⟩
abbrev main_v68 : Ref sig .tc := ⟨.hbm, 138, rfl⟩
abbrev main_v69 : Ref sig .tc := ⟨.hbm, 139, rfl⟩
abbrev main_v70 : Ref sig .tc := ⟨.hbm, 140, rfl⟩
abbrev main_v71 : Ref sig .tc := ⟨.hbm, 141, rfl⟩
abbrev main_v72 : Ref sig .tc := ⟨.hbm, 142, rfl⟩
abbrev main_cst_12 : Ref sig .tc := ⟨.hbm, 143, rfl⟩
abbrev main_v73 : Ref sig .tc := ⟨.hbm, 144, rfl⟩
abbrev main_v74 : Ref sig .tc := ⟨.hbm, 145, rfl⟩
abbrev main_v75 : Ref sig .tc := ⟨.hbm, 146, rfl⟩
abbrev main_v76 : Ref sig .tc := ⟨.hbm, 147, rfl⟩
abbrev main_cst_13 : Ref sig .tc := ⟨.hbm, 148, rfl⟩
abbrev main_v77 : Ref sig .tc := ⟨.hbm, 149, rfl⟩
abbrev main_cst_14 : Ref sig .tc := ⟨.hbm, 150, rfl⟩
abbrev main_v78 : Ref sig .tc := ⟨.hbm, 151, rfl⟩
abbrev main_v79 : Ref sig .tc := ⟨.hbm, 152, rfl⟩
abbrev main_v80 : Ref sig .tc := ⟨.hbm, 153, rfl⟩
abbrev main_v81 : Ref sig .tc := ⟨.hbm, 154, rfl⟩
abbrev main_cst_15 : Ref sig .tc := ⟨.hbm, 155, rfl⟩
abbrev main_call6_v0 : Ref sig .tc := ⟨.hbm, 156, rfl⟩
abbrev main_call6_v1 : Ref sig .tc := ⟨.hbm, 157, rfl⟩
abbrev main_v82 : Ref sig .tc := ⟨.hbm, 158, rfl⟩
abbrev main_v83 : Ref sig .tc := ⟨.hbm, 159, rfl⟩
abbrev main_v84 : Ref sig .tc := ⟨.hbm, 160, rfl⟩
abbrev main_v85 : Ref sig .tc := ⟨.hbm, 161, rfl⟩
abbrev main_cst_16 : Ref sig .tc := ⟨.hbm, 162, rfl⟩
abbrev main_v86 : Ref sig .tc := ⟨.hbm, 163, rfl⟩
abbrev main_v87 : Ref sig .tc := ⟨.hbm, 164, rfl⟩
abbrev main_v88 : Ref sig .tc := ⟨.hbm, 165, rfl⟩
abbrev main_v89 : Ref sig .tc := ⟨.hbm, 166, rfl⟩
abbrev main_v90 : Ref sig .tc := ⟨.hbm, 167, rfl⟩
abbrev main_call7_c : Ref sig .tc := ⟨.hbm, 168, rfl⟩
abbrev main_call7_v0 : Ref sig .tc := ⟨.hbm, 169, rfl⟩
abbrev main_call7_v1 : Ref sig .tc := ⟨.hbm, 170, rfl⟩
abbrev main_call7_c_0 : Ref sig .tc := ⟨.hbm, 171, rfl⟩
abbrev main_call7_v2 : Ref sig .tc := ⟨.hbm, 172, rfl⟩
abbrev main_call7_v3 : Ref sig .tc := ⟨.hbm, 173, rfl⟩
abbrev main_call7_v4 : Ref sig .tc := ⟨.hbm, 174, rfl⟩
abbrev main_call7_v5 : Ref sig .tc := ⟨.hbm, 175, rfl⟩
abbrev main_call7_c_1 : Ref sig .tc := ⟨.hbm, 176, rfl⟩
abbrev main_call7_c_2 : Ref sig .tc := ⟨.hbm, 177, rfl⟩
abbrev main_call7_v6 : Ref sig .tc := ⟨.hbm, 178, rfl⟩
abbrev main_call7_v7 : Ref sig .tc := ⟨.hbm, 179, rfl⟩
abbrev main_call7_v8 : Ref sig .tc := ⟨.hbm, 180, rfl⟩
abbrev main_call7_v9 : Ref sig .tc := ⟨.hbm, 181, rfl⟩
abbrev main_call7_v10 : Ref sig .tc := ⟨.hbm, 182, rfl⟩
abbrev main_call7_v11 : Ref sig .tc := ⟨.hbm, 183, rfl⟩
abbrev main_call7_c_3 : Ref sig .tc := ⟨.hbm, 184, rfl⟩
abbrev main_call7_v12 : Ref sig .tc := ⟨.hbm, 185, rfl⟩
abbrev main_call7_v13 : Ref sig .tc := ⟨.hbm, 186, rfl⟩
abbrev main_call7_cst : Ref sig .tc := ⟨.hbm, 187, rfl⟩
abbrev main_call7_v14 : Ref sig .tc := ⟨.hbm, 188, rfl⟩
abbrev main_v91 : Ref sig .tc := ⟨.hbm, 189, rfl⟩
abbrev main_call8_v0 : Ref sig .tc := ⟨.hbm, 190, rfl⟩
abbrev main_v92 : Ref sig .tc := ⟨.hbm, 191, rfl⟩
abbrev main_v93 : Ref sig .tc := ⟨.hbm, 192, rfl⟩
abbrev main_cst_17 : Ref sig .tc := ⟨.hbm, 193, rfl⟩
abbrev main_v94 : Ref sig .tc := ⟨.hbm, 194, rfl⟩
abbrev main_v95 : Ref sig .tc := ⟨.hbm, 195, rfl⟩
abbrev main_v96 : Ref sig .tc := ⟨.hbm, 196, rfl⟩
abbrev main_cst_18 : Ref sig .tc := ⟨.hbm, 197, rfl⟩
abbrev main_v97 : Ref sig .tc := ⟨.hbm, 198, rfl⟩
abbrev main_v98 : Ref sig .tc := ⟨.hbm, 199, rfl⟩
abbrev main_v99 : Ref sig .tc := ⟨.hbm, 200, rfl⟩
abbrev main_v100 : Ref sig .tc := ⟨.hbm, 201, rfl⟩
abbrev main_v101 : Ref sig .tc := ⟨.hbm, 202, rfl⟩
abbrev main_v102 : Ref sig .tc := ⟨.hbm, 203, rfl⟩
abbrev main_cst_19 : Ref sig .tc := ⟨.hbm, 204, rfl⟩
abbrev main_v103 : Ref sig .tc := ⟨.hbm, 205, rfl⟩
abbrev main_v104 : Ref sig .tc := ⟨.hbm, 206, rfl⟩
abbrev main_v105 : Ref sig .tc := ⟨.hbm, 207, rfl⟩
abbrev main_call9_v0 : Ref sig .tc := ⟨.hbm, 208, rfl⟩
abbrev main_call9_cst : Ref sig .tc := ⟨.hbm, 209, rfl⟩
abbrev main_call9_c : Ref sig .tc := ⟨.hbm, 210, rfl⟩
abbrev main_call9_v1_0 : Ref sig .tc := ⟨.hbm, 211, rfl⟩
abbrev main_v106 : Ref sig .tc := ⟨.hbm, 212, rfl⟩
abbrev main_v107 : Ref sig .tc := ⟨.hbm, 213, rfl⟩
abbrev main_v108 : Ref sig .tc := ⟨.hbm, 214, rfl⟩
abbrev main_v109 : Ref sig .tc := ⟨.hbm, 215, rfl⟩
abbrev main_v110 : Ref sig .tc := ⟨.hbm, 216, rfl⟩
abbrev main_c_20 : Ref sig .tc := ⟨.hbm, 217, rfl⟩
abbrev main_v111 : Ref sig .tc := ⟨.hbm, 218, rfl⟩
abbrev main_v112 : Ref sig .tc := ⟨.hbm, 219, rfl⟩
abbrev main_v113 : Ref sig .tc := ⟨.hbm, 220, rfl⟩
abbrev main_v114 : Ref sig .tc := ⟨.hbm, 221, rfl⟩
abbrev main_v115 : Ref sig .tc := ⟨.hbm, 222, rfl⟩
abbrev main_v116 : Ref sig .tc := ⟨.hbm, 223, rfl⟩
abbrev main_cst_21 : Ref sig .tc := ⟨.hbm, 224, rfl⟩
abbrev main_v117 : Ref sig .tc := ⟨.hbm, 225, rfl⟩
abbrev main_v118 : Ref sig .tc := ⟨.hbm, 226, rfl⟩
abbrev main_v119 : Ref sig .tc := ⟨.hbm, 227, rfl⟩
abbrev main_v120 : Ref sig .tc := ⟨.hbm, 228, rfl⟩
abbrev main_cst_22 : Ref sig .tc := ⟨.hbm, 229, rfl⟩
abbrev main_v121 : Ref sig .tc := ⟨.hbm, 230, rfl⟩
abbrev main_cst_23 : Ref sig .tc := ⟨.hbm, 231, rfl⟩
abbrev main_v122 : Ref sig .tc := ⟨.hbm, 232, rfl⟩
abbrev main_v123 : Ref sig .tc := ⟨.hbm, 233, rfl⟩
abbrev main_v124 : Ref sig .tc := ⟨.hbm, 234, rfl⟩
abbrev main_v125 : Ref sig .tc := ⟨.hbm, 235, rfl⟩
abbrev main_cst_24 : Ref sig .tc := ⟨.hbm, 236, rfl⟩
abbrev main_call10_v0 : Ref sig .tc := ⟨.hbm, 237, rfl⟩
abbrev main_call10_v1 : Ref sig .tc := ⟨.hbm, 238, rfl⟩
abbrev main_v126 : Ref sig .tc := ⟨.hbm, 239, rfl⟩
abbrev main_v127 : Ref sig .tc := ⟨.hbm, 240, rfl⟩
abbrev main_v128 : Ref sig .tc := ⟨.hbm, 241, rfl⟩
abbrev main_v129 : Ref sig .tc := ⟨.hbm, 242, rfl⟩
abbrev main_cst_25 : Ref sig .tc := ⟨.hbm, 243, rfl⟩
abbrev main_v130 : Ref sig .tc := ⟨.hbm, 244, rfl⟩
abbrev main_v131 : Ref sig .tc := ⟨.hbm, 245, rfl⟩
abbrev main_v132 : Ref sig .tc := ⟨.hbm, 246, rfl⟩
abbrev main_v133 : Ref sig .tc := ⟨.hbm, 247, rfl⟩
abbrev main_v134 : Ref sig .tc := ⟨.hbm, 248, rfl⟩
abbrev main_call11_c : Ref sig .tc := ⟨.hbm, 249, rfl⟩
abbrev main_call11_v0 : Ref sig .tc := ⟨.hbm, 250, rfl⟩
abbrev main_call11_v1 : Ref sig .tc := ⟨.hbm, 251, rfl⟩
abbrev main_call11_c_0 : Ref sig .tc := ⟨.hbm, 252, rfl⟩
abbrev main_call11_v2 : Ref sig .tc := ⟨.hbm, 253, rfl⟩
abbrev main_call11_v3 : Ref sig .tc := ⟨.hbm, 254, rfl⟩
abbrev main_call11_v4 : Ref sig .tc := ⟨.hbm, 255, rfl⟩
abbrev main_call11_v5 : Ref sig .tc := ⟨.hbm, 256, rfl⟩
abbrev main_call11_c_1 : Ref sig .tc := ⟨.hbm, 257, rfl⟩
abbrev main_call11_c_2 : Ref sig .tc := ⟨.hbm, 258, rfl⟩
abbrev main_call11_v6 : Ref sig .tc := ⟨.hbm, 259, rfl⟩
abbrev main_call11_v7 : Ref sig .tc := ⟨.hbm, 260, rfl⟩
abbrev main_call11_v8 : Ref sig .tc := ⟨.hbm, 261, rfl⟩
abbrev main_call11_v9 : Ref sig .tc := ⟨.hbm, 262, rfl⟩
abbrev main_call11_v10 : Ref sig .tc := ⟨.hbm, 263, rfl⟩
abbrev main_call11_v11 : Ref sig .tc := ⟨.hbm, 264, rfl⟩
abbrev main_call11_c_3 : Ref sig .tc := ⟨.hbm, 265, rfl⟩
abbrev main_call11_v12 : Ref sig .tc := ⟨.hbm, 266, rfl⟩
abbrev main_call11_v13 : Ref sig .tc := ⟨.hbm, 267, rfl⟩
abbrev main_call11_cst : Ref sig .tc := ⟨.hbm, 268, rfl⟩
abbrev main_call11_v14 : Ref sig .tc := ⟨.hbm, 269, rfl⟩
abbrev main_v135 : Ref sig .tc := ⟨.hbm, 270, rfl⟩
abbrev main_call12_v0 : Ref sig .tc := ⟨.hbm, 271, rfl⟩
abbrev main_v136 : Ref sig .tc := ⟨.hbm, 272, rfl⟩
abbrev main_v137 : Ref sig .tc := ⟨.hbm, 273, rfl⟩
abbrev main_cst_26 : Ref sig .tc := ⟨.hbm, 274, rfl⟩
abbrev main_v138 : Ref sig .tc := ⟨.hbm, 275, rfl⟩
abbrev main_v139 : Ref sig .tc := ⟨.hbm, 276, rfl⟩
abbrev main_v140 : Ref sig .tc := ⟨.hbm, 277, rfl⟩
abbrev main_cst_27 : Ref sig .tc := ⟨.hbm, 278, rfl⟩
abbrev main_v141 : Ref sig .tc := ⟨.hbm, 279, rfl⟩
abbrev main_v142 : Ref sig .tc := ⟨.hbm, 280, rfl⟩
abbrev main_v143 : Ref sig .tc := ⟨.hbm, 281, rfl⟩
abbrev main_v144 : Ref sig .tc := ⟨.hbm, 282, rfl⟩
abbrev main_v145 : Ref sig .tc := ⟨.hbm, 283, rfl⟩
abbrev main_v146 : Ref sig .tc := ⟨.hbm, 284, rfl⟩
abbrev main_cst_28 : Ref sig .tc := ⟨.hbm, 285, rfl⟩
abbrev main_v147 : Ref sig .tc := ⟨.hbm, 286, rfl⟩
abbrev main_v148 : Ref sig .tc := ⟨.hbm, 287, rfl⟩
abbrev main_v149 : Ref sig .tc := ⟨.hbm, 288, rfl⟩
abbrev main_call13_v0 : Ref sig .tc := ⟨.hbm, 289, rfl⟩
abbrev main_call13_cst : Ref sig .tc := ⟨.hbm, 290, rfl⟩
abbrev main_call13_c : Ref sig .tc := ⟨.hbm, 291, rfl⟩
abbrev main_call13_v1_0 : Ref sig .tc := ⟨.hbm, 292, rfl⟩
abbrev main_v150 : Ref sig .tc := ⟨.hbm, 293, rfl⟩
abbrev main_v151 : Ref sig .tc := ⟨.hbm, 294, rfl⟩
abbrev main_v152 : Ref sig .tc := ⟨.hbm, 295, rfl⟩
abbrev main_v153 : Ref sig .tc := ⟨.hbm, 296, rfl⟩
abbrev main_v154 : Ref sig .tc := ⟨.hbm, 297, rfl⟩
abbrev main_c_29 : Ref sig .tc := ⟨.hbm, 298, rfl⟩
abbrev main_v155 : Ref sig .tc := ⟨.hbm, 299, rfl⟩
abbrev main_v156 : Ref sig .tc := ⟨.hbm, 300, rfl⟩
abbrev main_v157 : Ref sig .tc := ⟨.hbm, 301, rfl⟩
abbrev main_v158 : Ref sig .tc := ⟨.hbm, 302, rfl⟩
abbrev main_v159 : Ref sig .tc := ⟨.hbm, 303, rfl⟩
abbrev main_v160 : Ref sig .tc := ⟨.hbm, 304, rfl⟩
abbrev main_cst_30 : Ref sig .tc := ⟨.hbm, 305, rfl⟩
abbrev main_v161 : Ref sig .tc := ⟨.hbm, 306, rfl⟩
abbrev main_v162 : Ref sig .tc := ⟨.hbm, 307, rfl⟩
abbrev main_v163 : Ref sig .tc := ⟨.hbm, 308, rfl⟩
abbrev main_v164 : Ref sig .tc := ⟨.hbm, 309, rfl⟩
abbrev main_cst_31 : Ref sig .tc := ⟨.hbm, 310, rfl⟩
abbrev main_v165 : Ref sig .tc := ⟨.hbm, 311, rfl⟩
abbrev main_cst_32 : Ref sig .tc := ⟨.hbm, 312, rfl⟩
abbrev main_v166 : Ref sig .tc := ⟨.hbm, 313, rfl⟩
abbrev main_v167 : Ref sig .tc := ⟨.hbm, 314, rfl⟩
abbrev main_v168 : Ref sig .tc := ⟨.hbm, 315, rfl⟩
abbrev main_v169 : Ref sig .tc := ⟨.hbm, 316, rfl⟩
abbrev main_cst_33 : Ref sig .tc := ⟨.hbm, 317, rfl⟩
abbrev main_call14_v0 : Ref sig .tc := ⟨.hbm, 318, rfl⟩
abbrev main_call14_v1 : Ref sig .tc := ⟨.hbm, 319, rfl⟩
abbrev main_v170 : Ref sig .tc := ⟨.hbm, 320, rfl⟩
abbrev main_v171 : Ref sig .tc := ⟨.hbm, 321, rfl⟩
abbrev main_v172 : Ref sig .tc := ⟨.hbm, 322, rfl⟩
abbrev main_v173 : Ref sig .tc := ⟨.hbm, 323, rfl⟩
abbrev main_cst_34 : Ref sig .tc := ⟨.hbm, 324, rfl⟩
abbrev main_v174 : Ref sig .tc := ⟨.hbm, 325, rfl⟩
abbrev main_v175 : Ref sig .tc := ⟨.hbm, 326, rfl⟩
abbrev main_v176 : Ref sig .tc := ⟨.hbm, 327, rfl⟩
abbrev main_v177 : Ref sig .tc := ⟨.hbm, 328, rfl⟩
abbrev main_v178 : Ref sig .tc := ⟨.hbm, 329, rfl⟩
abbrev main_call15_c : Ref sig .tc := ⟨.hbm, 330, rfl⟩
abbrev main_call15_v0 : Ref sig .tc := ⟨.hbm, 331, rfl⟩
abbrev main_call15_v1 : Ref sig .tc := ⟨.hbm, 332, rfl⟩
abbrev main_call15_c_0 : Ref sig .tc := ⟨.hbm, 333, rfl⟩
abbrev main_call15_v2 : Ref sig .tc := ⟨.hbm, 334, rfl⟩
abbrev main_call15_v3 : Ref sig .tc := ⟨.hbm, 335, rfl⟩
abbrev main_call15_v4 : Ref sig .tc := ⟨.hbm, 336, rfl⟩
abbrev main_call15_v5 : Ref sig .tc := ⟨.hbm, 337, rfl⟩
abbrev main_call15_c_1 : Ref sig .tc := ⟨.hbm, 338, rfl⟩
abbrev main_call15_c_2 : Ref sig .tc := ⟨.hbm, 339, rfl⟩
abbrev main_call15_v6 : Ref sig .tc := ⟨.hbm, 340, rfl⟩
abbrev main_call15_v7 : Ref sig .tc := ⟨.hbm, 341, rfl⟩
abbrev main_call15_v8 : Ref sig .tc := ⟨.hbm, 342, rfl⟩
abbrev main_call15_v9 : Ref sig .tc := ⟨.hbm, 343, rfl⟩
abbrev main_call15_v10 : Ref sig .tc := ⟨.hbm, 344, rfl⟩
abbrev main_call15_v11 : Ref sig .tc := ⟨.hbm, 345, rfl⟩
abbrev main_call15_c_3 : Ref sig .tc := ⟨.hbm, 346, rfl⟩
abbrev main_call15_v12 : Ref sig .tc := ⟨.hbm, 347, rfl⟩
abbrev main_call15_v13 : Ref sig .tc := ⟨.hbm, 348, rfl⟩
abbrev main_call15_cst : Ref sig .tc := ⟨.hbm, 349, rfl⟩
abbrev main_call15_v14 : Ref sig .tc := ⟨.hbm, 350, rfl⟩
abbrev main_v179 : Ref sig .tc := ⟨.hbm, 351, rfl⟩
abbrev main_call16_v0 : Ref sig .tc := ⟨.hbm, 352, rfl⟩
abbrev main_v180 : Ref sig .tc := ⟨.hbm, 353, rfl⟩

abbrev nD : Nat := 1
abbrev τ : Topo := Topo.v7x

variable {F : FTy → Type} [FloatOps F]
-- ==== Proof.Spec.lean ====
/-
  The values the kernel's body computes, over any float values: the one-hot gathers, the running centroid distances
  and their first minimum, the segment sums, the update of the centroids, and the four rounds of it.
-/
module

public import proofs.«01_k».proof.Proof.Gen.KernelIdeal.Skeleton
public import Idealize.ShloMosaic.Lib.Pipeline.FrameBody

@[expose] public section

noncomputable section

namespace Cert.KernelIdeal.Km

open Cert.KernelIdeal Cert.KernelIdeal.Gen
open Idealize.ShloMosaic

variable {F : FTy → Type} [FloatOps F]

/-- The centroid number of each entry of a [512, 2048] tile. -/
def io0 : IVec S512x2048 32 := iota .tc S512x2048 32 [0] iota_S512x2048_d0_w32
/-- The point number, within its tile, of each entry of a [512, 2048] tile. -/
def io1 : IVec S512x2048 32 := iota .tc S512x2048 32 [1] iota_S512x2048_d1_w32
/-- A [512, 33] array of zeros. -/
def z33 : FVec F S512x33 .f32 := broadcast S512x33 (Scalar.ofBits .f32 0x00000000#32)
/-- Accumulate the product of a one-hot tile with a tile of the points. -/
def hdot (acc : FVec F S512x33 .f32) (oh : FVec F S512x2048 .f32) (x : Vec F S1x2048x33 .f32) : FVec F S512x33 .f32 :=
  addf acc (matmul dot_S512x2048_S2048x33_S512x33_1_0_0_1_n_n (some .fp32) oh
    (shapeCast S2048x33 x shapeCasts_S1x2048x33_S2048x33) (constant S512x33 .f32 0x00000000#32))
/-- The one-hot tile of a column of point numbers, the tile beginning at point `off`. -/
def ohOf (col : IVec S512x1 32) (off : BitVec 32) : FVec F S512x2048 .f32 :=
  sitofp .f32 (extui 32 (cmpi .eq (broadcastTo S512x2048 col broadcasts_S512x1_S512x2048)
    (addi io1 (broadcast S512x2048 off))) natLt_1_32)
/-- The one-hot gather of the first three tiles. -/
def gat3 (col : IVec S512x1 32) (x0 x1 x2 : Vec F S1x2048x33 .f32) : FVec F S512x33 .f32 :=
  hdot (hdot (hdot z33 (ohOf col 0#32) x0) (ohOf col 2048#32) x1) (ohOf col 4096#32) x2
/-- The one-hot gather of the points a column names. -/
def gatherAll (col : IVec S512x1 32) (x0 x1 x2 x3 : Vec F S1x2048x33 .f32) : FVec F S512x33 .f32 :=
  hdot (gat3 col x0 x1 x2) (ohOf col 6144#32) x3
/-- The 32 coordinates of a [512, 33] array whose last column is the ones'. -/
def cenOf (g : FVec F S512x33 .f32) : FVec F S512x32 .f32 :=
  extractStridedSlice S512x32 ![0, 0] g slices_S512x33_o0_0_S512x32
/-- The squared length of each centroid. -/
def c2 (cen : FVec F S512x32 .f32) : FVec F S512x1 .f32 :=
  shapeCast S512x1 (multiReduction .add [1] S512 (mulf cen cen) 0x00000000#32 reduces_S512x32_S512 (.inl rfl) rfl)
    shapeCasts_S512_S512x1
/-- The centroids rounded to the products' type. -/
def cenT (cen : FVec F S512x32 .f32) : FVec F S512x32 .bf16 := truncf .bf16 cen bitsLt_bf16_f32
/-- The distances of a tile's points to the centroids, less each point's own squared length. -/
def dist (cen : FVec F S512x32 .f32) (t : Vec F S1x32x2048 .f32) : FVec F S512x2048 .f32 :=
  subf (broadcastTo S512x2048 (c2 cen) broadcasts_S512x1_S512x2048)
    (mulf (broadcast S512x2048 (Scalar.ofBits .f32 0x40000000#32))
      (matmul dot_S512x32_S32x2048_S512x2048_1_0_0_1_n_n none (cenT cen)
        (truncf .bf16 (shapeCast S32x2048 t shapeCasts_S1x32x2048_S32x2048) bitsLt_bf16_f32)
        (constant S512x2048 .f32 0x00000000#32)))
/-- The least distance of each point. -/
def dmin (d : FVec F S512x2048 .f32) : FVec F S2048 .f32 :=
  multiReduction .minimumf [0] S2048 d 0x7F800000#32 reduces_S512x2048_S2048 (.inl rfl) rfl
/-- Where the distance is the point's least. -/
def isMin (d : FVec F S512x2048 .f32) : IVec S512x2048 1 :=
  cmpf .oeq d (broadcastTo S512x2048 (shapeCast S1x2048 (dmin d) shapeCasts_S2048_S1x2048) broadcasts_S1x2048_S512x2048)
/-- The first centroid at the least distance, of each point. -/
def argm (d : FVec F S512x2048 .f32) : IVec S1x2048 32 :=
  shapeCast S1x2048 (multiReductionI .minsi [0] S2048 (select (isMin d) io0 (broadcast S512x2048 512#32)) 2147483647#32
    reduces_S512x2048_S2048 rfl) shapeCasts_S2048_S1x2048
/-- The centroid each point of a tile is assigned to. -/
def asg (cen : FVec F S512x32 .f32) (t : Vec F S1x32x2048 .f32) : IVec S1x2048 32 := argm (dist cen t)
/-- The one-hot tile of an assignment. -/
def ohA (a : IVec S1x2048 32) : FVec F S512x2048 .f32 :=
  sitofp .f32 (extui 32 (cmpi .eq io0 (broadcastTo S512x2048 a broadcasts_S1x2048_S512x2048)) natLt_1_32)
/-- The segment sums after the first tile, the second, the third and all four. -/
def sum1 (cen : FVec F S512x32 .f32) (t0 : Vec F S1x32x2048 .f32) (x0 : Vec F S1x2048x33 .f32) : FVec F S512x33 .f32 :=
  hdot z33 (ohA (asg cen t0)) x0
/-- The segment sums after the second tile. -/
def sum2 (cen : FVec F S512x32 .f32) (t0 t1 : Vec F S1x32x2048 .f32) (x0 x1 : Vec F S1x2048x33 .f32) : FVec F S512x33 .f32 :=
  hdot (sum1 cen t0 x0) (ohA (asg cen t1)) x1
/-- The segment sums after the third tile. -/
def sum3 (cen : FVec F S512x32 .f32) (t0 t1 t2 : Vec F S1x32x2048 .f32) (x0 x1 x2 : Vec F S1x2048x33 .f32) : FVec F S512x33 .f32 :=
  hdot (sum2 cen t0 t1 x0 x1) (ohA (asg cen t2)) x2
/-- The segment sums of the points and of the ones, by assigned centroid. -/
def sums (cen : FVec F S512x32 .f32) (t0 t1 t2 t3 : Vec F S1x32x2048 .f32) (x0 x1 x2 x3 : Vec F S1x2048x33 .f32) :
    FVec F S512x33 .f32 :=
  hdot (sum3 cen t0 t1 t2 x0 x1 x2) (ohA (asg cen t3)) x3
/-- The number of points of each centroid. -/
def cnt (s : FVec F S512x33 .f32) : FVec F S512x1 .f32 :=
  extractStridedSlice S512x1 ![0, 32] s slices_S512x33_o0_32_S512x1
/-- Where a centroid has no point. -/
def isEmp (n : FVec F S512x1 .f32) : IVec S512x1 1 := cmpf .oeq n (broadcast S512x1 (Scalar.ofBits .f32 0x00000000#32))
/-- One where a centroid has no point, else zero, at most over the centroids. -/
def empMax (s : FVec F S512x33 .f32) : FVec F S1 .f32 :=
  multiReduction .maximumf [1, 2] S1 (shapeCast S1x512x1 (select (isEmp (cnt s))
    (broadcast S512x1 (Scalar.ofBits (F := F) .f32 0x3F800000#32)) (broadcast S512x1 (Scalar.ofBits .f32 0x00000000#32)))
    shapeCasts_S512x1_S1x512x1) 0xFF800000#32 reduces_S1x512x1_S1 (.inl rfl) rfl
/-- The body's test that some centroid has no point. -/
def anyE (s : FVec F S512x33 .f32) : BitVec 1 :=
  Scalar.cmpi .ne (Scalar.extui (Scalar.cmpf .ogt
    (extractAt ![0, 0, 0] (shapeCast S1x1x1 (empMax s) shapeCasts_S1_S1x1x1) inpos_S1x1x1_p0_0_0)
    (Scalar.ofBits .f32 0x00000000#32)) : BitVec 32) 0#32
/-- The replacements of the empty centroids: the drawn points where the test holds, else zeros. -/
def repl (s : FVec F S512x33 .f32) (col : IVec S512x1 32) (x0 x1 x2 x3 : Vec F S1x2048x33 .f32) : FVec F S512x32 .f32 :=
  if anyE s = 1#1 then cenOf (gatherAll col x0 x1 x2 x3) else broadcast S512x32 (Scalar.ofBits .f32 0x00000000#32)
/-- The centroids after a round: the mean of each one's points, or its replacement. -/
def upd (s : FVec F S512x33 .f32) (r : FVec F S512x32 .f32) : FVec F S512x32 .f32 :=
  select (broadcastTo S512x32 (shapeCast S512x1 (isEmp (cnt s)) shapeCasts_S512x1_S512x1) broadcasts_S512x1_S512x32) r
    (divf (cenOf s) (broadcastTo S512x32 (maximumf (cnt s) (broadcast S512x1 (Scalar.ofBits .f32 0x3F800000#32)))
      broadcasts_S512x1_S512x32))
/-- One round. -/
def step (cen : FVec F S512x32 .f32) (col : IVec S512x1 32) (t0 t1 t2 t3 : Vec F S1x32x2048 .f32)
    (x0 x1 x2 x3 : Vec F S1x2048x33 .f32) : FVec F S512x32 .f32 :=
  upd (sums cen t0 t1 t2 t3 x0 x1 x2 x3) (repl (sums cen t0 t1 t2 t3 x0 x1 x2 x3) col x0 x1 x2 x3)
/-- The column of first point numbers. -/
def colC (v0 : Vec F S1x512x1 .i32) : IVec S512x1 32 := shapeCast S512x1 v0 shapeCasts_S1x512x1_S512x1
/-- The four columns of drawn point numbers. -/
def colsR (v2 : Vec F S1x512x4 .i32) : IVec S512x4 32 := shapeCast S512x4 v2 shapeCasts_S1x512x4_S512x4
/-- The first round's draws. -/
def colR0 (c : IVec S512x4 32) : IVec S512x1 32 := extractStridedSlice S512x1 ![0, 0] c slices_S512x4_o0_0_S512x1
/-- The second round's draws. -/
def colR1 (c : IVec S512x4 32) : IVec S512x1 32 := extractStridedSlice S512x1 ![0, 1] c slices_S512x4_o0_1_S512x1
/-- The third round's draws. -/
def colR2 (c : IVec S512x4 32) : IVec S512x1 32 := extractStridedSlice S512x1 ![0, 2] c slices_S512x4_o0_2_S512x1
/-- The fourth round's draws. -/
def colR3 (c : IVec S512x4 32) : IVec S512x1 32 := extractStridedSlice S512x1 ![0, 3] c slices_S512x4_o0_3_S512x1

/-- The rectangles the body reads: the four tiles of the points, -/
abbrev rX0 : Rect S1x8192x33 := Rect.unit (s := S1x8192x33) ![0, 0, 0] S1x2048x33.size inb_S1x8192x33_S1x2048x33_0_0_0
/-- the second, -/
abbrev rX1 : Rect S1x8192x33 := Rect.unit (s := S1x8192x33) ![0, 2048, 0] S1x2048x33.size inb_S1x8192x33_S1x2048x33_0_2048_0
/-- the third, -/
abbrev rX2 : Rect S1x8192x33 := Rect.unit (s := S1x8192x33) ![0, 4096, 0] S1x2048x33.size inb_S1x8192x33_S1x2048x33_0_4096_0
/-- the fourth; -/
abbrev rX3 : Rect S1x8192x33 := Rect.unit (s := S1x8192x33) ![0, 6144, 0] S1x2048x33.size inb_S1x8192x33_S1x2048x33_0_6144_0
/-- the four tiles of the transposed points, -/
abbrev rT0 : Rect S1x32x8192 := Rect.unit (s := S1x32x8192) ![0, 0, 0] S1x32x2048.size inb_S1x32x8192_S1x32x2048_0_0_0
/-- the second, -/
abbrev rT1 : Rect S1x32x8192 := Rect.unit (s := S1x32x8192) ![0, 0, 2048] S1x32x2048.size inb_S1x32x8192_S1x32x2048_0_0_2048
/-- the third, -/
abbrev rT2 : Rect S1x32x8192 := Rect.unit (s := S1x32x8192) ![0, 0, 4096] S1x32x2048.size inb_S1x32x8192_S1x32x2048_0_0_4096
/-- the fourth; -/
abbrev rT3 : Rect S1x32x8192 := Rect.unit (s := S1x32x8192) ![0, 0, 6144] S1x32x2048.size inb_S1x32x8192_S1x32x2048_0_0_6144
/-- the first point numbers, whole, -/
abbrev rC : Rect S1x512x1 := Rect.unit (s := S1x512x1) ![0, 0, 0] S1x512x1.size inb_S1x512x1_S1x512x1_0_0_0
/-- the draws, whole; -/
abbrev rR : Rect S1x512x4 := Rect.unit (s := S1x512x4) ![0, 0, 0] S1x512x4.size inb_S1x512x4_S1x512x4_0_0_0
/-- and those it writes: the centroids, whole, -/
abbrev rO : Rect S1x512x32 := Rect.unit (s := S1x512x32) ![0, 0, 0] S1x512x32.size inb_S1x512x32_S1x512x32_0_0_0
/-- the four tiles of the assignments, -/
abbrev rA0 : Rect S1x1x8192 := Rect.unit (s := S1x1x8192) ![0, 0, 0] S1x1x2048.size inb_S1x1x8192_S1x1x2048_0_0_0
/-- the second, -/
abbrev rA1 : Rect S1x1x8192 := Rect.unit (s := S1x1x8192) ![0, 0, 2048] S1x1x2048.size inb_S1x1x8192_S1x1x2048_0_0_2048
/-- the third, -/
abbrev rA2 : Rect S1x1x8192 := Rect.unit (s := S1x1x8192) ![0, 0, 4096] S1x1x2048.size inb_S1x1x8192_S1x1x2048_0_0_4096
/-- the fourth. -/
abbrev rA3 : Rect S1x1x8192 := Rect.unit (s := S1x1x8192) ![0, 0, 6144] S1x1x2048.size inb_S1x1x8192_S1x1x2048_0_0_6144

/-- The segment sums of a block of points `X`, given beside its transpose `T`. -/
def sm (X : Vec F S1x8192x33 .f32) (T : Vec F S1x32x8192 .f32) (cen : FVec F S512x32 .f32) : FVec F S512x33 .f32 :=
  sums cen (View.ld T rT0) (View.ld T rT1) (View.ld T rT2) (View.ld T rT3) (View.ld X rX0) (View.ld X rX1) (View.ld X rX2) (View.ld X rX3)
/-- The points of a block that a column names. -/
def gth (X : Vec F S1x8192x33 .f32) (col : IVec S512x1 32) : FVec F S512x32 .f32 :=
  cenOf (gatherAll col (View.ld X rX0) (View.ld X rX1) (View.ld X rX2) (View.ld X rX3))
/-- The centroids out of the segment sums `s`, the draws being the column's. -/
def nxt (X : Vec F S1x8192x33 .f32) (s : FVec F S512x33 .f32) (col : IVec S512x1 32) : FVec F S512x32 .f32 :=
  upd s (repl s col (View.ld X rX0) (View.ld X rX1) (View.ld X rX2) (View.ld X rX3))
/-- One round on a block. -/
def stp (X : Vec F S1x8192x33 .f32) (T : Vec F S1x32x8192 .f32) (cen : FVec F S512x32 .f32) (col : IVec S512x1 32) : FVec F S512x32 .f32 :=
  nxt X (sm X T cen) col
/-- The centroids the body begins with, -/
def cen0 (X : Vec F S1x8192x33 .f32) (C : Vec F S1x512x1 .i32) : FVec F S512x32 .f32 := gth X (colC (View.ld C rC))
/-- after the first round, -/
def cen1 (X : Vec F S1x8192x33 .f32) (T : Vec F S1x32x8192 .f32) (C : Vec F S1x512x1 .i32) (R : Vec F S1x512x4 .i32) : FVec F S512x32 .f32 :=
  stp X T (cen0 X C) (colR0 (colsR (View.ld R rR)))
/-- the second, -/
def cen2 (X : Vec F S1x8192x33 .f32) (T : Vec F S1x32x8192 .f32) (C : Vec F S1x512x1 .i32) (R : Vec F S1x512x4 .i32) : FVec F S512x32 .f32 :=
  stp X T (cen1 X T C R) (colR1 (colsR (View.ld R rR)))
/-- the third, -/
def cen3 (X : Vec F S1x8192x33 .f32) (T : Vec F S1x32x8192 .f32) (C : Vec F S1x512x1 .i32) (R : Vec F S1x512x4 .i32) : FVec F S512x32 .f32 :=
  stp X T (cen2 X T C R) (colR2 (colsR (View.ld R rR)))
/-- and the fourth. -/
def cen4 (X : Vec F S1x8192x33 .f32) (T : Vec F S1x32x8192 .f32) (C : Vec F S1x512x1 .i32) (R : Vec F S1x512x4 .i32) : FVec F S512x32 .f32 :=
  stp X T (cen3 X T C R) (colR3 (colsR (View.ld R rR)))
/-- A tile of assignments as the body stores it. -/
def wA (a : IVec S1x2048 32) : IVec S1x1x2048 32 := shapeCast S1x1x2048 a shapeCasts_S1x2048_S1x1x2048

end Cert.KernelIdeal.Km

end
-- ==== Proof.Math.lean ====
/-
  The k-means rounds over real points: the first nearest centroid of a point, and the centroids after a round.
-/
module

public import Idealize.ShloMosaic.Lib.Pointwise

@[expose] public section

noncomputable section

namespace Cert.Means

open Idealize.ShloMosaic

/-- `a` is the first place where `f` is least. -/
def IsFirst (f : Fin 512 → ℝ) (a : Fin 512) : Prop := (∀ j, f a ≤ f j) ∧ ∀ j, j < a → f a < f j

/-- There is only one first least place. -/
theorem IsFirst.unique {f : Fin 512 → ℝ} {a b : Fin 512} (ha : IsFirst f a) (hb : IsFirst f b) : a = b := by
  rcases lt_trichotomy a b with h | h | h
  · exact absurd (hb.2 a h) (not_lt.mpr (ha.1 b))
  · exact h
  · exact absurd (ha.2 b h) (not_lt.mpr (hb.1 a))

/-- There is a first least place. -/
theorem exists_first (f : Fin 512 → ℝ) : ∃ a, IsFirst f a := by
  obtain ⟨b, -, hb⟩ := Finset.exists_min_image Finset.univ f ⟨0, Finset.mem_univ _⟩
  obtain ⟨a, ha, hm⟩ := Finset.exists_min_image (Finset.univ.filter fun j => f j = f b) id ⟨b, by simp⟩
  have hab : f a = f b := (Finset.mem_filter.mp ha).2
  refine ⟨a, fun j => hab ▸ hb j (Finset.mem_univ _), fun j hj => ?_⟩
  refine lt_of_le_of_ne (hab ▸ hb j (Finset.mem_univ _)) fun he => ?_
  exact absurd hj (not_lt.mpr (hm j (by simp [← he, hab])))

/-- The first place where `f` is least. -/
def first (f : Fin 512 → ℝ) : Fin 512 := (exists_first f).choose

/-- It is the first least place. -/
theorem first_spec (f : Fin 512 → ℝ) : IsFirst f (first f) := (exists_first f).choose_spec

/-- What is the first least place of `f` is `first f`. -/
theorem first_eq {f : Fin 512 → ℝ} {a : Fin 512} (h : IsFirst f a) : first f = a := (first_spec f).unique h

/-- Adding the same number everywhere moves no first least place. -/
theorem first_add (f : Fin 512 → ℝ) (t : ℝ) : first (fun k => t + f k) = first f :=
  first_eq ⟨fun j => by simpa using (first_spec f).1 j, fun j hj => by simpa using (first_spec f).2 j hj⟩

/-- The squared distance of a point to a centroid, less the point's own squared length. -/
def dst (c : Fin 512 → Fin 32 → ℝ) (x : Fin 32 → ℝ) (k : Fin 512) : ℝ := (∑ d, c k d * c k d) - 2 * ∑ d, c k d * x d
/-- The first nearest centroid of each point. -/
def near (c : Fin 512 → Fin 32 → ℝ) (x : Fin 8192 → Fin 32 → ℝ) (n : Fin 8192) : Fin 512 := first (dst c (x n))
/-- The number of points assigned to a centroid. -/
def count (a : Fin 8192 → Fin 512) (k : Fin 512) : ℝ := ∑ n, if a n = k then 1 else 0
/-- The sum of the points assigned to a centroid. -/
def total (x : Fin 8192 → Fin 32 → ℝ) (a : Fin 8192 → Fin 512) (k : Fin 512) (d : Fin 32) : ℝ := ∑ n, if a n = k then x n d else 0
/-- The centroids after a round: the mean of each one's points, or the point drawn for it where it has none. -/
def next (x : Fin 8192 → Fin 32 → ℝ) (a : Fin 8192 → Fin 512) (r : Fin 512 → Fin 8192) (k : Fin 512) (d : Fin 32) : ℝ :=
  if count a k = 0 then x (r k) d else total x a k d / max (count a k) 1
/-- One round: assign, then renew. -/
def turn (x : Fin 8192 → Fin 32 → ℝ) (r : Fin 512 → Fin 8192) (c : Fin 512 → Fin 32 → ℝ) : Fin 512 → Fin 32 → ℝ :=
  next x (near c x) r

/-- The centroids after three rounds, from the points `q` names, the draws being `r`'s. -/
def three (x : Fin 8192 → Fin 32 → ℝ) (q : Fin 512 → Fin 8192) (r : Fin 4 → Fin 512 → Fin 8192) : Fin 512 → Fin 32 → ℝ :=
  turn x (r 2) (turn x (r 1) (turn x (r 0) (fun k d => x (q k) d)))

/-- A sum of reals, each taken as an extended real, is the real sum. -/
theorem coe_total {ι : Type} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

/-- The division of reals, the divisor not zero, taken in the extended reals. -/
theorem div_real (a b : ℝ) (h : b ≠ 0) : Ideal.div (a : EReal) (b : EReal) = ((a / b : ℝ) : EReal) := by
  rw [Ideal.div, if_neg (by exact_mod_cast h), ← EReal.coe_inv, ← EReal.coe_mul, div_eq_mul_inv]

/-- The word of 2.0 is two. -/
theorem word_two : Ideal.ofBits .f32 0x40000000#32 = ((2 : ℝ) : EReal) := by
  simp [Ideal.ofBits, Ideal.ieee]
  rw [← EReal.coe_mul]
  norm_num

/-- The word of plus infinity is the top. -/
theorem word_top : Ideal.ofBits .f32 0x7F800000#32 = (⊤ : EReal) := by
  simp [Ideal.ofBits, Ideal.ieee]

/-- The least of a family of reals is its value at the first least place. -/
theorem fold_least (f : Fin 512 → ℝ) :
    Finset.univ.fold min (⊤ : EReal) (fun k => ((f k : ℝ) : EReal)) = ((f (first f) : ℝ) : EReal) := by
  refine le_antisymm ?_ ?_
  · exact (Finset.fold_min_le _).mpr (Or.inr ⟨first f, Finset.mem_univ _, le_refl _⟩)
  · exact (Finset.le_fold_min _).mpr ⟨le_top, fun k _ => by exact_mod_cast (first_spec f).1 k⟩

/-- The signed minimum of a family of words: it is at most each of them, and it is the start or one of them. -/
theorem fold_minsi {ι : Type} [DecidableEq ι] (s : Finset ι) (g : ι → BitVec 32) (z : BitVec 32) :
    (∀ k ∈ s, (s.fold IntOp.minsi z g).toInt ≤ (g k).toInt) ∧ (s.fold IntOp.minsi z g = z ∨ ∃ k ∈ s, s.fold IntOp.minsi z g = g k) := by
  induction s using Finset.induction_on with
  | empty => simp
  | insert a s h ih =>
    rw [Finset.fold_insert h]
    obtain ⟨h1, h2⟩ := ih
    by_cases hc : (g a).slt (s.fold IntOp.minsi z g) = true
    · have he : IntOp.minsi (g a) (s.fold IntOp.minsi z g) = g a := if_pos hc
      have hc := le_of_lt (BitVec.slt_iff_toInt_lt.mp hc)
      rw [he]
      exact ⟨fun k hk => by
        rcases Finset.mem_insert.mp hk with rfl | hk
        · exact le_refl _
        · exact hc.trans (h1 k hk), Or.inr ⟨a, Finset.mem_insert_self _ _, rfl⟩⟩
    · have he : IntOp.minsi (g a) (s.fold IntOp.minsi z g) = s.fold IntOp.minsi z g := if_neg hc
      have hc : ¬ (g a).toInt < (s.fold IntOp.minsi z g).toInt := fun h => hc (BitVec.slt_iff_toInt_lt.mpr h)
      rw [he]
      refine ⟨fun k hk => ?_, ?_⟩
      · rcases Finset.mem_insert.mp hk with rfl | hk
        · exact not_lt.mp hc
        · exact h1 k hk
      · rcases h2 with h2 | ⟨k, hk, h2⟩
        · exact Or.inl h2
        · exact Or.inr ⟨k, Finset.mem_insert_of_mem hk, h2⟩

/-- A small number's word, read signed, is the number. -/
theorem small_toInt (n : ℕ) (h : n < 2 ^ 31) : (BitVec.ofNat 32 n).toInt = n := by
  rw [BitVec.toInt_eq_toNat_cond, BitVec.toNat_ofNat]
  have : n % 2 ^ 32 = n := Nat.mod_eq_of_lt (by omega)
  rw [this, if_pos (by omega)]

/-- The first least place, found as the least number among those at which the least value stands, 512 standing for the others. -/
theorem first_of_minsi (f : Fin 512 → ℝ) :
    Finset.univ.fold IntOp.minsi 2147483647#32 (fun k : Fin 512 => if f k = f (first f) then BitVec.ofNat 32 k else 512#32)
      = BitVec.ofNat 32 (first f) := by
  obtain ⟨h1, h2⟩ := fold_minsi Finset.univ (fun k : Fin 512 => if f k = f (first f) then BitVec.ofNat 32 k else 512#32) 2147483647#32
  have hl := h1 (first f) (Finset.mem_univ _)
  rw [if_pos rfl, small_toInt _ (by omega)] at hl
  rcases h2 with h2 | ⟨k, -, h2⟩
  · rw [h2] at hl
    have : (2147483647#32 : BitVec 32).toInt = 2147483647 := by decide
    omega
  · rw [h2] at hl ⊢
    by_cases hk : f k = f (first f)
    · rw [if_pos hk] at hl ⊢
      rw [small_toInt _ (by omega)] at hl
      have : ¬ k < first f := fun hlt => absurd hk (ne_of_gt ((first_spec f).2 k hlt))
      have : k = first f := by omega
      rw [this]
    · rw [if_neg hk] at hl
      have : (512#32 : BitVec 32).toInt = 512 := by decide
      omega

/-- Small numbers with one word are one. -/
theorem ofNat_inj {a b : ℕ} (ha : a < 2 ^ 32) (hb : b < 2 ^ 32) : BitVec.ofNat 32 a = BitVec.ofNat 32 b ↔ a = b := by
  constructor
  · intro h
    have := congrArg BitVec.toNat h
    simp only [BitVec.toNat_ofNat] at this
    omega
  · rintro rfl; rfl

end Cert.Means

end
-- ==== Proof.KVal.lean ====
/-
  What the kernel's body computes on one block of real points, over the extended reals: one round is `Means.turn`.
-/
module

public import proofs.«01_k».proof.Proof.Spec
public import proofs.«01_k».proof.Proof.Math
public import Idealize.ShloMosaic.Lib.Pointwise

@[expose] public section

set_option maxRecDepth 16384

noncomputable section

namespace Cert.KernelIdeal.Km

open Cert.KernelIdeal Cert.KernelIdeal.Gen Cert.Means
open Idealize.ShloMosaic

/-- The float of a comparison's bit is one where the words are equal, else zero. -/
theorem hot (w v : BitVec 32) :
    (FloatOps.sitofp .f32 (BitVec.setWidth 32 (IntOp.cmpi .eq w v)) : Ideal .f32) = (if w = v then 1 else 0 : EReal) := by
  show (((BitVec.setWidth 32 (IntOp.cmpi .eq w v)).toInt : ℝ) : EReal) = _
  by_cases h : w = v
  · subst h; simp [IntOp.cmpi]
  · have hb : (w == v) = false := by simpa using h
    simp [IntOp.cmpi, h, hb]

/-- The product with a one-hot tile, entry by entry. -/
theorem hdot_at (acc : FVec Ideal S512x33 .f32) (oh : FVec Ideal S512x2048 .f32) (x : FVec Ideal S1x2048x33 .f32)
    (k : Fin 512) (e : Fin 33) :
    hdot acc oh x (ix2 k e) = acc (ix2 k e) + ∑ p : Fin 2048, oh (ix2 k p) * x (ix3 0 p e) := by
  pointwise [hdot]

/-- The one-hot tile of a column, entry by entry. -/
theorem ohOf_at (col : IVec S512x1 32) (off : BitVec 32) (k : Fin 512) (p : Fin 2048) :
    ohOf (F := Ideal) col off (ix2 k p) = (if col (ix2 k 0) = BitVec.ofNat 32 p + off then 1 else 0 : EReal) := by
  pointwise [ohOf, io1]
  exact hot _ _

/-- The one-hot tile of an assignment, entry by entry. -/
theorem ohA_at (a : IVec S1x2048 32) (k : Fin 512) (p : Fin 2048) :
    ohA (F := Ideal) a (ix2 k p) = (if BitVec.ofNat 32 k = a (ix2 0 p) then 1 else 0 : EReal) := by
  pointwise [ohA, io0]
  exact hot _ _

/-- The distance of a tile's point to a centroid, entry by entry, where both are real. -/
theorem dist_at (cen : FVec Ideal S512x32 .f32) (t : FVec Ideal S1x32x2048 .f32) (c : Fin 512 → Fin 32 → ℝ) (y : Fin 2048 → Fin 32 → ℝ)
    (hc : ∀ k d, cen (ix2 k d) = ((c k d : ℝ) : EReal)) (ht : ∀ p d, t (ix3 0 d p) = ((y p d : ℝ) : EReal)) (k : Fin 512) (p : Fin 2048) :
    dist cen t (ix2 k p) = ((dst c (y p) k : ℝ) : EReal) := by
  have h : dist cen t (ix2 k p) = (∑ d : Fin 32, cen (ix2 k d) * cen (ix2 k d) : EReal)
      - Ideal.ofBits .f32 0x40000000#32 * ∑ d : Fin 32, cen (ix2 k d) * t (ix3 0 d p) := by
    pointwise [dist, c2, cenT]
  rw [h, word_two]
  simp only [hc, ht, ← EReal.coe_mul, coe_total, ← EReal.coe_sub]
  rfl

/-- The first nearest centroid out of real distances, as the body finds it. -/
theorem argm_at (d : FVec Ideal S512x2048 .f32) (f : Fin 512 → ℝ) (p : Fin 2048) (h : ∀ k, d (ix2 k p) = ((f k : ℝ) : EReal)) :
    argm d (ix2 0 p) = BitVec.ofNat 32 (first f) := by
  rw [← first_of_minsi f]
  pointwise [argm, isMin, dmin, io0, h, word_top]
  simp only [fold_least, EReal.coe_eq_coe_iff]

/-- The assignment of a tile of real points. -/
theorem asg_at (cen : FVec Ideal S512x32 .f32) (t : FVec Ideal S1x32x2048 .f32) (c : Fin 512 → Fin 32 → ℝ) (y : Fin 2048 → Fin 32 → ℝ)
    (hc : ∀ k d, cen (ix2 k d) = ((c k d : ℝ) : EReal)) (ht : ∀ p d, t (ix3 0 d p) = ((y p d : ℝ) : EReal)) (p : Fin 2048) :
    asg cen t (ix2 0 p) = BitVec.ofNat 32 (first (dst c (y p))) :=
  argm_at _ _ _ fun k => dist_at cen t c y hc ht k p

/-- The centroids out of the segment sums, entry by entry. -/
theorem upd_at (s : FVec Ideal S512x33 .f32) (r : FVec Ideal S512x32 .f32) (k : Fin 512) (d : Fin 32) :
    upd s r (ix2 k d) = if s (ix2 k 32) = (0 : EReal) then r (ix2 k d) else
      Ideal.div (s (ix2 k ⟨d, by omega⟩)) (max (s (ix2 k 32)) 1) := by
  pointwise [upd, isEmp, cnt, cenOf]

/-- The body's test holds where a centroid has no point. -/
theorem anyE_at (s : FVec Ideal S512x33 .f32) (k : Fin 512) (h : s (ix2 k 32) = (0 : EReal)) :
    anyE s = 1#1 := by
  pointwise [anyE, empMax, isEmp, cnt]
  rw [decide_eq_true]
  · rfl
  · exact (Finset.lt_fold_max _).mpr (Or.inr ⟨(k, 0), Finset.mem_univ _, by rw [if_pos h]; exact zero_lt_one⟩)

/-- Four accumulated products with one-hot tiles are one sum over all the points. -/
theorem hdot4 (X : Vec Ideal S1x8192x33 .f32) (o0 o1 o2 o3 : FVec Ideal S512x2048 .f32) (k : Fin 512) (e : Fin 33) (f : Fin 8192 → EReal)
    (h0 : ∀ p : Fin 2048, o0 (ix2 k p) = f ⟨p, by omega⟩) (h1 : ∀ p : Fin 2048, o1 (ix2 k p) = f ⟨2048 + p, by omega⟩)
    (h2 : ∀ p : Fin 2048, o2 (ix2 k p) = f ⟨4096 + p, by omega⟩) (h3 : ∀ p : Fin 2048, o3 (ix2 k p) = f ⟨6144 + p, by omega⟩) :
    hdot (hdot (hdot (hdot z33 o0 (View.ld X rX0)) o1 (View.ld X rX1)) o2 (View.ld X rX2)) o3 (View.ld X rX3) (ix2 k e)
      = ∑ n : Fin 8192, f n * (X (ix3 0 n e) : EReal) := by
  have hz : z33 (F := Ideal) (ix2 k e) = (0 : EReal) := by pointwise [z33]
  rw [Fin.sum_univ_tiles 4 2048 rfl, Fin.sum_univ_four, hdot_at, hdot_at, hdot_at, hdot_at, hz, zero_add]
  refine congrArg₂ (· + ·) (congrArg₂ (· + ·) (congrArg₂ (· + ·) ?_ ?_) ?_) ?_
  · refine Finset.sum_congr rfl fun p _ => ?_
    rw [h0]
    pointwise
  · refine Finset.sum_congr rfl fun p _ => ?_
    rw [h1]
    pointwise
  · refine Finset.sum_congr rfl fun p _ => ?_
    rw [h2]
    pointwise
  · refine Finset.sum_congr rfl fun p _ => ?_
    rw [h3]
    pointwise

/-- `X` holds the real points `x`, a one beside each, and `T` holds them transposed. -/
structure Holds (X : Vec Ideal S1x8192x33 .f32) (T : Vec Ideal S1x32x8192 .f32) (x : Fin 8192 → Fin 32 → ℝ) : Prop where
  pt : ∀ n (d : Fin 32), X (ix3 0 n ⟨d, by omega⟩) = ((x n d : ℝ) : EReal)
  one : ∀ n, X (ix3 0 n 32) = (1 : EReal)
  tr : ∀ n d, T (ix3 0 d n) = ((x n d : ℝ) : EReal)

/-- A one-hot tile of a column of point numbers, its point's number counted from the block's beginning. -/
theorem ohOf_pt (col : IVec S512x1 32) (r : Fin 512 → Fin 8192) (hr : ∀ k, col (ix2 k 0) = BitVec.ofNat 32 (r k)) (off : ℕ) (k : Fin 512)
    (p : Fin 2048) (h : off + p < 8192) :
    ohOf (F := Ideal) col (BitVec.ofNat 32 off) (ix2 k p) = (if (⟨off + p, h⟩ : Fin 8192) = r k then 1 else 0 : EReal) := by
  rw [ohOf_at, hr, ← BitVec.ofNat_add]
  refine if_congr ?_ rfl rfl
  rw [ofNat_inj (by omega) (by omega), Fin.ext_iff]
  simp only []
  omega

/-- The points a column names. -/
theorem gth_at (X : Vec Ideal S1x8192x33 .f32) (T : Vec Ideal S1x32x8192 .f32) (x : Fin 8192 → Fin 32 → ℝ) (hx : Holds X T x)
    (col : IVec S512x1 32) (r : Fin 512 → Fin 8192) (hr : ∀ k, col (ix2 k 0) = BitVec.ofNat 32 (r k)) (k : Fin 512) (d : Fin 32) :
    gth X col (ix2 k d) = ((x (r k) d : ℝ) : EReal) := by
  have hc : ∀ g : FVec Ideal S512x33 .f32, cenOf g (ix2 k d) = g (ix2 k ⟨d, by omega⟩) := fun g => by pointwise [cenOf]
  rw [gth, hc, gatherAll, gat3, hdot4 X _ _ _ _ k _ (fun n => if n = r k then 1 else 0)]
  · rw [Finset.sum_eq_single (r k)]
    · rw [if_pos rfl, one_mul, hx.pt]
    · intro n _ hn
      rw [if_neg hn, zero_mul]
    · exact fun h => absurd (Finset.mem_univ _) h
  · intro p
    rw [show (0#32 : BitVec 32) = BitVec.ofNat 32 0 from rfl, ohOf_pt col r hr 0 k p (by omega)]
    simp only [zero_add]
  · exact fun p => ohOf_pt col r hr 2048 k p (by omega)
  · exact fun p => ohOf_pt col r hr 4096 k p (by omega)
  · exact fun p => ohOf_pt col r hr 6144 k p (by omega)

/-- The assignment of the tile of points beginning at `off`. -/
theorem asg_pt (cen : FVec Ideal S512x32 .f32) (t : FVec Ideal S1x32x2048 .f32) (c : Fin 512 → Fin 32 → ℝ) (x : Fin 8192 → Fin 32 → ℝ)
    (hc : ∀ k d, cen (ix2 k d) = ((c k d : ℝ) : EReal)) (off : ℕ) (ho : off + 2048 ≤ 8192)
    (ht : ∀ (p : Fin 2048) d, t (ix3 0 d p) = ((x ⟨off + p, by omega⟩ d : ℝ) : EReal)) (p : Fin 2048) :
    asg cen t (ix2 0 p) = BitVec.ofNat 32 (near c x ⟨off + p, by omega⟩) :=
  asg_at cen t c (fun p => x ⟨off + p, by omega⟩) hc ht p

/-- The one-hot tile of that assignment. -/
theorem ohA_pt (a : IVec S1x2048 32) (f : Fin 8192 → Fin 512) (off : ℕ) (ho : off + 2048 ≤ 8192)
    (ha : ∀ p : Fin 2048, a (ix2 0 p) = BitVec.ofNat 32 (f ⟨off + p, by omega⟩)) (k : Fin 512) (p : Fin 2048) :
    ohA (F := Ideal) a (ix2 k p) = (if f ⟨off + p, by omega⟩ = k then 1 else 0 : EReal) := by
  rw [ohA_at, ha]
  refine if_congr ?_ rfl rfl
  rw [ofNat_inj (by omega) (by omega), Fin.ext_iff]
  exact eq_comm

section tiles

variable (T : Vec Ideal S1x32x8192 .f32) (x : Fin 8192 → Fin 32 → ℝ) (hT : ∀ n d, T (ix3 0 d n) = ((x n d : ℝ) : EReal))
include hT

/-- The first tile of the transposed points, -/
theorem ldT0 (p : Fin 2048) (d : Fin 32) : (View.ld T rT0 : Vec Ideal S1x32x2048 .f32) (ix3 0 d p) = ((x ⟨0 + p, by omega⟩ d : ℝ) : EReal) := by
  rw [← hT]
  pointwise
/-- the second, -/
theorem ldT1 (p : Fin 2048) (d : Fin 32) : (View.ld T rT1 : Vec Ideal S1x32x2048 .f32) (ix3 0 d p) = ((x ⟨2048 + p, by omega⟩ d : ℝ) : EReal) := by
  rw [← hT]
  pointwise
/-- the third -/
theorem ldT2 (p : Fin 2048) (d : Fin 32) : (View.ld T rT2 : Vec Ideal S1x32x2048 .f32) (ix3 0 d p) = ((x ⟨4096 + p, by omega⟩ d : ℝ) : EReal) := by
  rw [← hT]
  pointwise
/-- and the fourth. -/
theorem ldT3 (p : Fin 2048) (d : Fin 32) : (View.ld T rT3 : Vec Ideal S1x32x2048 .f32) (ix3 0 d p) = ((x ⟨6144 + p, by omega⟩ d : ℝ) : EReal) := by
  rw [← hT]
  pointwise

end tiles

/-- The segment sums of a block of real points. -/
theorem sm_at (X : Vec Ideal S1x8192x33 .f32) (T : Vec Ideal S1x32x8192 .f32) (x : Fin 8192 → Fin 32 → ℝ) (hx : Holds X T x)
    (cen : FVec Ideal S512x32 .f32) (c : Fin 512 → Fin 32 → ℝ) (hc : ∀ k d, cen (ix2 k d) = ((c k d : ℝ) : EReal)) (k : Fin 512) (e : Fin 33) :
    sm X T cen (ix2 k e) = ∑ n : Fin 8192, (if near c x n = k then 1 else 0) * (X (ix3 0 n e) : EReal) := by
  rw [sm, sums, sum3, sum2, sum1, hdot4 X _ _ _ _ k e (fun n => if near c x n = k then 1 else 0)]
  · intro p
    rw [ohA_pt _ (near c x) 0 (by omega) (asg_pt cen _ c x hc 0 (by omega) (ldT0 T x hx.tr))]
    simp only [zero_add]
  · exact ohA_pt _ (near c x) 2048 (by omega) (asg_pt cen _ c x hc 2048 (by omega) (ldT1 T x hx.tr)) k
  · exact ohA_pt _ (near c x) 4096 (by omega) (asg_pt cen _ c x hc 4096 (by omega) (ldT2 T x hx.tr)) k
  · exact ohA_pt _ (near c x) 6144 (by omega) (asg_pt cen _ c x hc 6144 (by omega) (ldT3 T x hx.tr)) k

/-- One round on a block of real points. -/
theorem stp_at (X : Vec Ideal S1x8192x33 .f32) (T : Vec Ideal S1x32x8192 .f32) (x : Fin 8192 → Fin 32 → ℝ) (hx : Holds X T x)
    (cen : FVec Ideal S512x32 .f32) (c : Fin 512 → Fin 32 → ℝ) (hc : ∀ k d, cen (ix2 k d) = ((c k d : ℝ) : EReal))
    (col : IVec S512x1 32) (r : Fin 512 → Fin 8192) (hr : ∀ k, col (ix2 k 0) = BitVec.ofNat 32 (r k)) (k : Fin 512) (d : Fin 32) :
    stp X T cen col (ix2 k d) = ((turn x r c k d : ℝ) : EReal) := by
  have h0 : sm X T cen (ix2 k 32) = ((count (near c x) k : ℝ) : EReal) := by
    rw [sm_at X T x hx cen c hc, Cert.Means.count, ← coe_total]
    refine Finset.sum_congr rfl fun n _ => ?_
    rw [hx.one, mul_one]
    split <;> simp
  have h1 : sm X T cen (ix2 k ⟨d, by omega⟩) = ((total x (near c x) k d : ℝ) : EReal) := by
    rw [sm_at X T x hx cen c hc, total, ← coe_total]
    refine Finset.sum_congr rfl fun n _ => ?_
    rw [hx.pt]
    split <;> simp
  rw [stp, nxt, upd_at, h0, h1, turn, next]
  by_cases hz : count (near c x) k = 0
  · rw [if_pos (by rw [hz]; rfl), if_pos hz, repl, if_pos (anyE_at _ k (by rw [h0, hz]; rfl))]
    exact gth_at X T x hx col r hr k d
  · rw [if_neg (fun h => hz (by exact_mod_cast h)), if_neg hz, ← EReal.coe_one, ← EReal.coe_strictMono.monotone.map_max,
      div_real _ _ (ne_of_gt (lt_of_lt_of_le one_pos (le_max_right _ _)))]

/-- The point number drawn for a centroid, read off a column of numbers. -/
theorem colR_at (R : Vec Ideal S1x512x4 .i32) (k : Fin 512) : colR0 (colsR (View.ld R rR)) (ix2 k 0) = R (ix3 0 k 0)
    ∧ colR1 (colsR (View.ld R rR)) (ix2 k 0) = R (ix3 0 k 1) ∧ colR2 (colsR (View.ld R rR)) (ix2 k 0) = R (ix3 0 k 2)
    ∧ colR3 (colsR (View.ld R rR)) (ix2 k 0) = R (ix3 0 k 3) := by
  refine ⟨?_, ?_, ?_, ?_⟩
  · pointwise [colR0, colsR]
  · pointwise [colR1, colsR]
  · pointwise [colR2, colsR]
  · pointwise [colR3, colsR]

section rounds

variable (X : Vec Ideal S1x8192x33 .f32) (T : Vec Ideal S1x32x8192 .f32) (C : Vec Ideal S1x512x1 .i32) (R : Vec Ideal S1x512x4 .i32)
  (x : Fin 8192 → Fin 32 → ℝ) (hx : Holds X T x) (q : Fin 512 → Fin 8192) (hq : ∀ k, C (ix3 0 k 0) = BitVec.ofNat 32 (q k))
  (r : Fin 4 → Fin 512 → Fin 8192) (hr : ∀ k i, R (ix3 0 k i) = BitVec.ofNat 32 (r i k))
include hx hq

/-- The first centroids are the points named. -/
theorem cen0_at (k : Fin 512) (d : Fin 32) : cen0 X C (ix2 k d) = ((x (q k) d : ℝ) : EReal) := by
  refine gth_at X T x hx _ q (fun k => ?_) k d
  rw [← hq]
  pointwise [colC]

include hr

/-- The centroids after three rounds. -/
theorem cen3_at (k : Fin 512) (d : Fin 32) : cen3 X T C R (ix2 k d)
    = ((three x q r k d : ℝ) : EReal) :=
  stp_at X T x hx _ _ (stp_at X T x hx _ _ (stp_at X T x hx _ _ (cen0_at X T C x hx q hq) _ (r 0)
    fun k => (colR_at R k).1.trans (hr k 0)) _ (r 1) fun k => (colR_at R k).2.1.trans (hr k 1)) _ (r 2)
    (fun k => (colR_at R k).2.2.1.trans (hr k 2)) k d

/-- The centroids after four rounds. -/
theorem cen4_at (k : Fin 512) (d : Fin 32) : cen4 X T C R (ix2 k d)
    = ((turn x (r 3) (three x q r) k d : ℝ) : EReal) :=
  stp_at X T x hx _ _ (cen3_at X T C R x hx q hq r hr) _ (r 3) (fun k => (colR_at R k).2.2.2.trans (hr k 3)) k d

end rounds

end Cert.KernelIdeal.Km

end
-- ==== Proof.Body.lean ====
/-
  The kernel's body, run part by part over any float values: each part's loads and stores on the staged blocks, its
  results the values `Spec` names. The body's branch on an empty centroid is run both ways.
-/
module

public import proofs.«01_k».proof.Proof.Spec
public import proofs.«01_k».proof.Proof.Gen.KernelIdeal.Frame

@[expose] public section

set_option maxRecDepth 16384

noncomputable section

namespace Cert.KernelIdeal.Km

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A result replaced by an equal one. -/
theorem swap_res {α : Type*} {P : sProp 𝕄} {Q : α → sProp 𝕄} {r r' : α} (h : r = r') (H : Entails' P (Q r)) : Entails' P (Q r') :=
  h ▸ H

/-- The assignments' staging buffer on core `c`, held at contents `f`. -/
abbrev pt6 (c : Dev nD) (a6 : Memref sig .tc .vmem S1x1x8192 .i32) (f : Buf (Elt F) (a6.view.loc (c : Thread nD τ))) : sProp 𝕄 :=
  a6.view.loc (c : Thread nD τ) ↦[a6.view.set]{fullShare} f

set_option maxHeartbeats 1000000 in
/-- Part 5 of the body reads the first centroids' and the draws' numbers and gathers over three tiles. -/
theorem wp_part5 (c : Dev nD) (i : grid0.Coords) (a1 : Memref sig .tc .vmem S1x8192x33 .f32) (h1 : a1.IsWhole) (a2 : Memref sig .tc .vmem S1x32x8192 .f32) (h2 : a2.IsWhole) (a3 : Memref sig .tc .vmem S1x512x1 .i32) (h3 : a3.IsWhole) (a4 : Memref sig .tc .vmem S1x512x4 .i32) (h4 : a4.IsWhole) (a5 : Memref sig .tc .vmem S1x512x32 .f32) (h5 : a5.IsWhole) (a6 : Memref sig .tc .vmem S1x1x8192 .i32) (h6 : a6.IsWhole)
    (X : Vec F S1x8192x33 .f32) (T : Vec F S1x32x8192 .f32) (C : Vec F S1x512x1 .i32) (R : Vec F S1x512x4 .i32)
    (Q : (Σ' (v1 : IVec S512x1 32) (v3 : IVec S512x4 32) (v4 : IVec S512x2048 32) (v5 : IVec S512x2048 32), FVec F S512x33 .f32) → sProp 𝕄) :
    iprop(owns (c : Thread nD τ) a1 fullShare X ∗ owns (c : Thread nD τ) a2 fullShare T ∗ owns (c : Thread nD τ) a3 fullShare C ∗ owns (c : Thread nD τ) a4 fullShare R
      ∗ (iprop(owns (c : Thread nD τ) a1 fullShare X ∗ owns (c : Thread nD τ) a2 fullShare T ∗ owns (c : Thread nD τ) a3 fullShare C ∗ owns (c : Thread nD τ) a4 fullShare R)
          -∗ Q ⟨colC (View.ld C rC), colsR (View.ld R rR), io0, io1, gat3 (colC (View.ld C rC)) (View.ld X rX0) (View.ld X rX1) (View.ld X rX2)⟩))
    ⊢ wp frame (wpE (defs₀ (F := F)) Variants.none c none) Set.univ
      (k0_part5 i a1 h1 a2 h2 a3 h3 a4 h4 a5 h5 a6 h6 ) Q := by
  simp only [k0_part5_eq_skeleton]; unfold k0_part5_skel
  unfold owns
  iintro ⟨⟨%f1, %hf1, H1⟩, ⟨%f2, %hf2, H2⟩, ⟨%f3, %hf3, H3⟩, ⟨%f4, %hf4, H4⟩, Hk⟩
  subst hf1 hf2 hf3 hf4
  sl_exec
  sl_step
  refine swap_res (Q := Q) (r := ?r) ?h ?g
  case' g => iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  · iexists f4; isplitr; · ipureintro; rfl
    iexact H4
  rfl

set_option maxHeartbeats 1000000 in
/-- Part 6 of the body ends the first gather and sums the first tile. -/
theorem wp_part6 (c : Dev nD) (i : grid0.Coords) (a1 : Memref sig .tc .vmem S1x8192x33 .f32) (h1 : a1.IsWhole) (a2 : Memref sig .tc .vmem S1x32x8192 .f32) (h2 : a2.IsWhole) (a3 : Memref sig .tc .vmem S1x512x1 .i32) (h3 : a3.IsWhole) (a4 : Memref sig .tc .vmem S1x512x4 .i32) (h4 : a4.IsWhole) (a5 : Memref sig .tc .vmem S1x512x32 .f32) (h5 : a5.IsWhole) (a6 : Memref sig .tc .vmem S1x1x8192 .i32) (h6 : a6.IsWhole)
    (X : Vec F S1x8192x33 .f32) (T : Vec F S1x32x8192 .f32) (col : IVec S512x1 32) (cs : IVec S512x4 32)
    (Q : (Σ' (v50 : FVec F S512x1 .f32) (v51 : FVec F S512x32 .bf16) (v52 : IVec S512x1 32), FVec F S512x33 .f32) → sProp 𝕄) :
    iprop(owns (c : Thread nD τ) a1 fullShare X ∗ owns (c : Thread nD τ) a2 fullShare T
      ∗ (iprop(owns (c : Thread nD τ) a1 fullShare X ∗ owns (c : Thread nD τ) a2 fullShare T)
          -∗ Q ⟨c2 (gth X col), cenT (gth X col), colR0 cs, sum1 (gth X col) (View.ld T rT0) (View.ld X rX0)⟩))
    ⊢ wp frame (wpE (defs₀ (F := F)) Variants.none c none) Set.univ
      (k0_part6 i a1 h1 a2 h2 a3 h3 a4 h4 a5 h5 a6 h6 col cs io0 io1 (gat3 col (View.ld X rX0) (View.ld X rX1) (View.ld X rX2))) Q := by
  simp only [k0_part6_eq_skeleton]; unfold k0_part6_skel
  unfold owns
  iintro ⟨⟨%f1, %hf1, H1⟩, ⟨%f2, %hf2, H2⟩, Hk⟩
  subst hf1 hf2
  sl_exec
  sl_step
  refine swap_res (Q := Q) (r := ?r) ?h ?g
  case' g => iapply Hk
  isplitl [H1]
  · iexists f1; isplitr; · ipureintro; rfl
    iexact H1
  · iexists f2; isplitr; · ipureintro; rfl
    iexact H2
  rfl

set_option maxHeartbeats 1000000 in
/-- Part 7 of the body sums the second tile and assigns the third. -/
theorem wp_part7 (c : Dev nD) (i : grid0.Coords) (a1 : Memref sig .tc .vmem S1x8192x33 .f32) (h1 : a1.IsWhole) (a2 : Memref sig .tc .vmem S1x32x8192 .f32) (h2 : a2.IsWhole) (a3 : Memref sig .tc .vmem S1x512x1 .i32) (h3 : a3.IsWhole) (a4 : Memref sig .tc .vmem S1x512x4 .i32) (h4 : a4.IsWhole) (a5 : Memref sig .tc .vmem S1x512x32 .f32) (h5 : a5.IsWhole) (a6 : Memref sig .tc .vmem S1x1x8192 .i32) (h6 : a6.IsWhole)
    (X : Vec F S1x8192x33 .f32) (T : Vec F S1x32x8192 .f32) (cen : FVec F S512x32 .f32)
    (Q : (Σ' (v101 : FVec F S512x33 .f32), IVec S1x2048 32) → sProp 𝕄) :
    iprop(owns (c : Thread nD τ) a1 fullShare X ∗ owns (c : Thread nD τ) a2 fullShare T
      ∗ (iprop(owns (c : Thread nD τ) a1 fullShare X ∗ owns (c : Thread nD τ) a2 fullShare T)
          -∗ Q ⟨(sum2 cen (View.ld T rT0) (View.ld T rT1) (View.ld X rX0) (View.ld X rX1)), asg cen (View.ld T rT2)⟩))
    ⊢ wp frame (wpE (defs₀ (F := F)) Variants.none c none) Set.univ
      (k0_part7 i a1 h1 a2 h2 a3 h3 a4 h4 a5 h5 a6 h6 io0 (c2 cen) (cenT cen) (sum1 cen (View.ld T rT0) (View.ld X rX0))) Q := by
  simp only [k0_part7_eq_skeleton]; unfold k0_part7_skel
  unfold owns
  iintro ⟨⟨%f1, %hf1, H1⟩, ⟨%f2, %hf2, H2⟩, Hk⟩
  subst hf1 hf2
  sl_exec
  sl_step
  refine swap_res (Q := Q) (r := ?r) ?h ?g
  case' g => iapply Hk
  isplitl [H1]
  · iexists f1; isplitr; · ipureintro; rfl
    iexact H1
  · iexists f2; isplitr; · ipureintro; rfl
    iexact H2
  rfl

set_option maxHeartbeats 1000000 in
/-- Part 8 of the body sums the third and fourth tiles and looks for empty centroids. -/
theorem wp_part8 (c : Dev nD) (i : grid0.Coords) (a1 : Memref sig .tc .vmem S1x8192x33 .f32) (h1 : a1.IsWhole) (a2 : Memref sig .tc .vmem S1x32x8192 .f32) (h2 : a2.IsWhole) (a3 : Memref sig .tc .vmem S1x512x1 .i32) (h3 : a3.IsWhole) (a4 : Memref sig .tc .vmem S1x512x4 .i32) (h4 : a4.IsWhole) (a5 : Memref sig .tc .vmem S1x512x32 .f32) (h5 : a5.IsWhole) (a6 : Memref sig .tc .vmem S1x1x8192 .i32) (h6 : a6.IsWhole)
    (X : Vec F S1x8192x33 .f32) (T : Vec F S1x32x8192 .f32) (cen : FVec F S512x32 .f32)
    (Q : (Σ' (v149 : FVec F S512x33 .f32) (v150 : FVec F S512x1 .f32), FVec F S1 .f32) → sProp 𝕄) :
    iprop(owns (c : Thread nD τ) a1 fullShare X ∗ owns (c : Thread nD τ) a2 fullShare T
      ∗ (iprop(owns (c : Thread nD τ) a1 fullShare X ∗ owns (c : Thread nD τ) a2 fullShare T)
          -∗ Q ⟨sm X T cen, cnt (sm X T cen), empMax (sm X T cen)⟩))
    ⊢ wp frame (wpE (defs₀ (F := F)) Variants.none c none) Set.univ
      (k0_part8 i a1 h1 a2 h2 a3 h3 a4 h4 a5 h5 a6 h6 io0 (c2 cen) (cenT cen) (sum2 cen (View.ld T rT0) (View.ld T rT1) (View.ld X rX0) (View.ld X rX1)) (asg cen (View.ld T rT2))) Q := by
  simp only [k0_part8_eq_skeleton]; unfold k0_part8_skel
  unfold owns
  iintro ⟨⟨%f1, %hf1, H1⟩, ⟨%f2, %hf2, H2⟩, Hk⟩
  subst hf1 hf2
  sl_exec
  sl_step
  refine swap_res (Q := Q) (r := ?r) ?h ?g
  case' g => iapply Hk
  isplitl [H1]
  · iexists f1; isplitr; · ipureintro; rfl
    iexact H1
  · iexists f2; isplitr; · ipureintro; rfl
    iexact H2
  rfl

set_option maxHeartbeats 1000000 in
/-- Part 9 of the body updates the centroids and assigns the first tile. -/
theorem wp_part9 (c : Dev nD) (i : grid0.Coords) (a1 : Memref sig .tc .vmem S1x8192x33 .f32) (h1 : a1.IsWhole) (a2 : Memref sig .tc .vmem S1x32x8192 .f32) (h2 : a2.IsWhole) (a3 : Memref sig .tc .vmem S1x512x1 .i32) (h3 : a3.IsWhole) (a4 : Memref sig .tc .vmem S1x512x4 .i32) (h4 : a4.IsWhole) (a5 : Memref sig .tc .vmem S1x512x32 .f32) (h5 : a5.IsWhole) (a6 : Memref sig .tc .vmem S1x1x8192 .i32) (h6 : a6.IsWhole)
    (X : Vec F S1x8192x33 .f32) (T : Vec F S1x32x8192 .f32) (s : FVec F S512x33 .f32) (col : IVec S512x1 32) (cs : IVec S512x4 32)
    (Q : (Σ' (v176 : FVec F S512x1 .f32) (v177 : FVec F S512x32 .bf16) (v178 : IVec S512x1 32) (v179 : FVec F S512x33 .f32) (v199 : FVec F S512x2048 .f32), Vec F S1x2048x33 .f32) → sProp 𝕄) :
    iprop(owns (c : Thread nD τ) a1 fullShare X ∗ owns (c : Thread nD τ) a2 fullShare T
      ∗ (iprop(owns (c : Thread nD τ) a1 fullShare X ∗ owns (c : Thread nD τ) a2 fullShare T)
          -∗ Q ⟨c2 (nxt X s col), cenT (nxt X s col), colR1 cs, z33, ohA (asg (nxt X s col) (View.ld T rT0)), (View.ld X rX0)⟩))
    ⊢ wp frame (wpE (defs₀ (F := F)) Variants.none c none) Set.univ
      (k0_part9 i a1 h1 a2 h2 a3 h3 a4 h4 a5 h5 a6 h6 cs io0 io1 col s (cnt s) (empMax s)) Q := by
  simp only [k0_part9_eq_skeleton]; unfold k0_part9_skel
  simp only [k0_part1_eq_skeleton]; unfold k0_part1_skel
  unfold owns
  iintro ⟨⟨%f1, %hf1, H1⟩, ⟨%f2, %hf2, H2⟩, Hk⟩
  subst hf1 hf2
  by_cases h : (Scalar.cmpi .ne (Scalar.extui (Scalar.cmpf .ogt (k0_pay27 (empMax s)) (Scalar.ofBits .f32 0x00000000#32)) : BitVec 32) 0#32) = 1#1
  · have h' : anyE s = 1#1 := h
    sl_exec
    sl_step
    refine swap_res (Q := Q) (r := ?rpos) ?hpos ?gpos
    case' gpos => iapply Hk
    isplitl [H1]
    · iexists f1; isplitr; · ipureintro; rfl
      iexact H1
    · iexists f2; isplitr; · ipureintro; rfl
      iexact H2
    simp only [nxt, repl, if_pos h']
    rfl
  · have h' : ¬ anyE s = 1#1 := h
    sl_exec
    sl_step
    refine swap_res (Q := Q) (r := ?rneg) ?hneg ?gneg
    case' gneg => iapply Hk
    isplitl [H1]
    · iexists f1; isplitr; · ipureintro; rfl
      iexact H1
    · iexists f2; isplitr; · ipureintro; rfl
      iexact H2
    simp only [nxt, repl, if_neg h']
    rfl

set_option maxHeartbeats 1000000 in
/-- Part 10 of the body sums two tiles and finds the third's least distances. -/
theorem wp_part10 (c : Dev nD) (i : grid0.Coords) (a1 : Memref sig .tc .vmem S1x8192x33 .f32) (h1 : a1.IsWhole) (a2 : Memref sig .tc .vmem S1x32x8192 .f32) (h2 : a2.IsWhole) (a3 : Memref sig .tc .vmem S1x512x1 .i32) (h3 : a3.IsWhole) (a4 : Memref sig .tc .vmem S1x512x4 .i32) (h4 : a4.IsWhole) (a5 : Memref sig .tc .vmem S1x512x32 .f32) (h5 : a5.IsWhole) (a6 : Memref sig .tc .vmem S1x1x8192 .i32) (h6 : a6.IsWhole)
    (X : Vec F S1x8192x33 .f32) (T : Vec F S1x32x8192 .f32) (cen : FVec F S512x32 .f32)
    (Q : (Σ' (v227 : FVec F S512x33 .f32) (v239 : IVec S512x2048 1), IVec S512x2048 32) → sProp 𝕄) :
    iprop(owns (c : Thread nD τ) a1 fullShare X ∗ owns (c : Thread nD τ) a2 fullShare T
      ∗ (iprop(owns (c : Thread nD τ) a1 fullShare X ∗ owns (c : Thread nD τ) a2 fullShare T)
          -∗ Q ⟨(sum2 cen (View.ld T rT0) (View.ld T rT1) (View.ld X rX0) (View.ld X rX1)), isMin (dist cen (View.ld T rT2)), broadcast S512x2048 512#32⟩))
    ⊢ wp frame (wpE (defs₀ (F := F)) Variants.none c none) Set.univ
      (k0_part10 i a1 h1 a2 h2 a3 h3 a4 h4 a5 h5 a6 h6 io0 (c2 cen) (cenT cen) z33 (ohA (asg cen (View.ld T rT0))) (View.ld X rX0)) Q := by
  simp only [k0_part10_eq_skeleton]; unfold k0_part10_skel
  unfold owns
  iintro ⟨⟨%f1, %hf1, H1⟩, ⟨%f2, %hf2, H2⟩, Hk⟩
  subst hf1 hf2
  sl_exec
  sl_step
  refine swap_res (Q := Q) (r := ?r) ?h ?g
  case' g => iapply Hk
  isplitl [H1]
  · iexists f1; isplitr; · ipureintro; rfl
    iexact H1
  · iexists f2; isplitr; · ipureintro; rfl
    iexact H2
  rfl

set_option maxHeartbeats 1000000 in
/-- Part 11 of the body sums the last two tiles and counts. -/
theorem wp_part11 (c : Dev nD) (i : grid0.Coords) (a1 : Memref sig .tc .vmem S1x8192x33 .f32) (h1 : a1.IsWhole) (a2 : Memref sig .tc .vmem S1x32x8192 .f32) (h2 : a2.IsWhole) (a3 : Memref sig .tc .vmem S1x512x1 .i32) (h3 : a3.IsWhole) (a4 : Memref sig .tc .vmem S1x512x4 .i32) (h4 : a4.IsWhole) (a5 : Memref sig .tc .vmem S1x512x32 .f32) (h5 : a5.IsWhole) (a6 : Memref sig .tc .vmem S1x1x8192 .i32) (h6 : a6.IsWhole)
    (X : Vec F S1x8192x33 .f32) (T : Vec F S1x32x8192 .f32) (cen : FVec F S512x32 .f32)
    (Q : (Σ' (v275 : FVec F S512x33 .f32) (v276 : FVec F S512x1 .f32) (v278 : IVec S512x1 1) (v279 : FVec F S512x1 .f32), FVec F S512x1 .f32) → sProp 𝕄) :
    iprop(owns (c : Thread nD τ) a1 fullShare X ∗ owns (c : Thread nD τ) a2 fullShare T
      ∗ (iprop(owns (c : Thread nD τ) a1 fullShare X ∗ owns (c : Thread nD τ) a2 fullShare T)
          -∗ Q ⟨sm X T cen, cnt (sm X T cen), isEmp (cnt (sm X T cen)), (broadcast S512x1 (Scalar.ofBits .f32 0x3F800000#32)), (broadcast S512x1 (Scalar.ofBits .f32 0x00000000#32))⟩))
    ⊢ wp frame (wpE (defs₀ (F := F)) Variants.none c none) Set.univ
      (k0_part11 i a1 h1 a2 h2 a3 h3 a4 h4 a5 h5 a6 h6 io0 (c2 cen) (cenT cen) (sum2 cen (View.ld T rT0) (View.ld T rT1) (View.ld X rX0) (View.ld X rX1)) (isMin (dist cen (View.ld T rT2))) (broadcast S512x2048 512#32)) Q := by
  simp only [k0_part11_eq_skeleton]; unfold k0_part11_skel
  unfold owns
  iintro ⟨⟨%f1, %hf1, H1⟩, ⟨%f2, %hf2, H2⟩, Hk⟩
  subst hf1 hf2
  sl_exec
  sl_step
  refine swap_res (Q := Q) (r := ?r) ?h ?g
  case' g => iapply Hk
  isplitl [H1]
  · iexists f1; isplitr; · ipureintro; rfl
    iexact H1
  · iexists f2; isplitr; · ipureintro; rfl
    iexact H2
  rfl

set_option maxHeartbeats 1000000 in
/-- Part 12 of the body updates the centroids and assigns the first tile. -/
theorem wp_part12 (c : Dev nD) (i : grid0.Coords) (a1 : Memref sig .tc .vmem S1x8192x33 .f32) (h1 : a1.IsWhole) (a2 : Memref sig .tc .vmem S1x32x8192 .f32) (h2 : a2.IsWhole) (a3 : Memref sig .tc .vmem S1x512x1 .i32) (h3 : a3.IsWhole) (a4 : Memref sig .tc .vmem S1x512x4 .i32) (h4 : a4.IsWhole) (a5 : Memref sig .tc .vmem S1x512x32 .f32) (h5 : a5.IsWhole) (a6 : Memref sig .tc .vmem S1x1x8192 .i32) (h6 : a6.IsWhole)
    (X : Vec F S1x8192x33 .f32) (T : Vec F S1x32x8192 .f32) (s : FVec F S512x33 .f32) (col : IVec S512x1 32) (cs : IVec S512x4 32)
    (Q : (Σ' (v302 : FVec F S512x1 .f32) (v303 : FVec F S512x32 .bf16) (v304 : IVec S512x1 32) (v305 : FVec F S512x33 .f32), FVec F S512x2048 .f32) → sProp 𝕄) :
    iprop(owns (c : Thread nD τ) a1 fullShare X ∗ owns (c : Thread nD τ) a2 fullShare T
      ∗ (iprop(owns (c : Thread nD τ) a1 fullShare X ∗ owns (c : Thread nD τ) a2 fullShare T)
          -∗ Q ⟨c2 (nxt X s col), cenT (nxt X s col), colR2 cs, z33, ohA (asg (nxt X s col) (View.ld T rT0))⟩))
    ⊢ wp frame (wpE (defs₀ (F := F)) Variants.none c none) Set.univ
      (k0_part12 i a1 h1 a2 h2 a3 h3 a4 h4 a5 h5 a6 h6 cs io0 io1 col s (cnt s) (isEmp (cnt s)) (broadcast S512x1 (Scalar.ofBits .f32 0x3F800000#32)) (broadcast S512x1 (Scalar.ofBits .f32 0x00000000#32))) Q := by
  simp only [k0_part12_eq_skeleton]; unfold k0_part12_skel
  simp only [k0_part2_eq_skeleton]; unfold k0_part2_skel
  unfold owns
  iintro ⟨⟨%f1, %hf1, H1⟩, ⟨%f2, %hf2, H2⟩, Hk⟩
  subst hf1 hf2
  by_cases h : (Scalar.cmpi .ne (Scalar.extui (Scalar.cmpf .ogt (k0_pay44 (F := F) (isEmp (cnt s)) (broadcast S512x1 (Scalar.ofBits .f32 0x3F800000#32)) (broadcast S512x1 (Scalar.ofBits .f32 0x00000000#32))) (Scalar.ofBits .f32 0x00000000#32)) : BitVec 32) 0#32) = 1#1
  · have h' : anyE s = 1#1 := h
    sl_exec
    sl_step
    refine swap_res (Q := Q) (r := ?rpos) ?hpos ?gpos
    case' gpos => iapply Hk
    isplitl [H1]
    · iexists f1; isplitr; · ipureintro; rfl
      iexact H1
    · iexists f2; isplitr; · ipureintro; rfl
      iexact H2
    simp only [nxt, repl, if_pos h']
    rfl
  · have h' : ¬ anyE s = 1#1 := h
    sl_exec
    sl_step
    refine swap_res (Q := Q) (r := ?rneg) ?hneg ?gneg
    case' gneg => iapply Hk
    isplitl [H1]
    · iexists f1; isplitr; · ipureintro; rfl
      iexact H1
    · iexists f2; isplitr; · ipureintro; rfl
      iexact H2
    simp only [nxt, repl, if_neg h']
    rfl

set_option maxHeartbeats 1000000 in
/-- Part 13 of the body sums two tiles and finds the third's distances. -/
theorem wp_part13 (c : Dev nD) (i : grid0.Coords) (a1 : Memref sig .tc .vmem S1x8192x33 .f32) (h1 : a1.IsWhole) (a2 : Memref sig .tc .vmem S1x32x8192 .f32) (h2 : a2.IsWhole) (a3 : Memref sig .tc .vmem S1x512x1 .i32) (h3 : a3.IsWhole) (a4 : Memref sig .tc .vmem S1x512x4 .i32) (h4 : a4.IsWhole) (a5 : Memref sig .tc .vmem S1x512x32 .f32) (h5 : a5.IsWhole) (a6 : Memref sig .tc .vmem S1x1x8192 .i32) (h6 : a6.IsWhole)
    (X : Vec F S1x8192x33 .f32) (T : Vec F S1x32x8192 .f32) (cen : FVec F S512x32 .f32)
    (Q : (Σ' (v353 : FVec F S512x33 .f32) (v361 : FVec F S512x2048 .f32), FVec F S1x2048 .f32) → sProp 𝕄) :
    iprop(owns (c : Thread nD τ) a1 fullShare X ∗ owns (c : Thread nD τ) a2 fullShare T
      ∗ (iprop(owns (c : Thread nD τ) a1 fullShare X ∗ owns (c : Thread nD τ) a2 fullShare T)
          -∗ Q ⟨(sum2 cen (View.ld T rT0) (View.ld T rT1) (View.ld X rX0) (View.ld X rX1)), dist cen (View.ld T rT2), shapeCast S1x2048 (dmin (dist cen (View.ld T rT2))) shapeCasts_S2048_S1x2048⟩))
    ⊢ wp frame (wpE (defs₀ (F := F)) Variants.none c none) Set.univ
      (k0_part13 i a1 h1 a2 h2 a3 h3 a4 h4 a5 h5 a6 h6 io0 (c2 cen) (cenT cen) z33 (ohA (asg cen (View.ld T rT0)))) Q := by
  simp only [k0_part13_eq_skeleton]; unfold k0_part13_skel
  unfold owns
  iintro ⟨⟨%f1, %hf1, H1⟩, ⟨%f2, %hf2, H2⟩, Hk⟩
  subst hf1 hf2
  sl_exec
  sl_step
  refine swap_res (Q := Q) (r := ?r) ?h ?g
  case' g => iapply Hk
  isplitl [H1]
  · iexists f1; isplitr; · ipureintro; rfl
    iexact H1
  · iexists f2; isplitr; · ipureintro; rfl
    iexact H2
  rfl

set_option maxHeartbeats 1000000 in
/-- Part 14 of the body sums the last two tiles and counts. -/
theorem wp_part14 (c : Dev nD) (i : grid0.Coords) (a1 : Memref sig .tc .vmem S1x8192x33 .f32) (h1 : a1.IsWhole) (a2 : Memref sig .tc .vmem S1x32x8192 .f32) (h2 : a2.IsWhole) (a3 : Memref sig .tc .vmem S1x512x1 .i32) (h3 : a3.IsWhole) (a4 : Memref sig .tc .vmem S1x512x4 .i32) (h4 : a4.IsWhole) (a5 : Memref sig .tc .vmem S1x512x32 .f32) (h5 : a5.IsWhole) (a6 : Memref sig .tc .vmem S1x1x8192 .i32) (h6 : a6.IsWhole)
    (X : Vec F S1x8192x33 .f32) (T : Vec F S1x32x8192 .f32) (cen : FVec F S512x32 .f32)
    (Q : (Σ' (v401 : FVec F S512x33 .f32) (v402 : FVec F S512x1 .f32), IVec S512x1 1) → sProp 𝕄) :
    iprop(owns (c : Thread nD τ) a1 fullShare X ∗ owns (c : Thread nD τ) a2 fullShare T
      ∗ (iprop(owns (c : Thread nD τ) a1 fullShare X ∗ owns (c : Thread nD τ) a2 fullShare T)
          -∗ Q ⟨sm X T cen, cnt (sm X T cen), isEmp (cnt (sm X T cen))⟩))
    ⊢ wp frame (wpE (defs₀ (F := F)) Variants.none c none) Set.univ
      (k0_part14 i a1 h1 a2 h2 a3 h3 a4 h4 a5 h5 a6 h6 io0 (c2 cen) (cenT cen) (sum2 cen (View.ld T rT0) (View.ld T rT1) (View.ld X rX0) (View.ld X rX1)) (dist cen (View.ld T rT2)) (shapeCast S1x2048 (dmin (dist cen (View.ld T rT2))) shapeCasts_S2048_S1x2048)) Q := by
  simp only [k0_part14_eq_skeleton]; unfold k0_part14_skel
  unfold owns
  iintro ⟨⟨%f1, %hf1, H1⟩, ⟨%f2, %hf2, H2⟩, Hk⟩
  subst hf1 hf2
  sl_exec
  sl_step
  refine swap_res (Q := Q) (r := ?r) ?h ?g
  case' g => iapply Hk
  isplitl [H1]
  · iexists f1; isplitr; · ipureintro; rfl
    iexact H1
  · iexists f2; isplitr; · ipureintro; rfl
    iexact H2
  rfl

set_option maxHeartbeats 1000000 in
/-- Part 15 of the body updates the centroids and assigns the first tile. -/
theorem wp_part15 (c : Dev nD) (i : grid0.Coords) (a1 : Memref sig .tc .vmem S1x8192x33 .f32) (h1 : a1.IsWhole) (a2 : Memref sig .tc .vmem S1x32x8192 .f32) (h2 : a2.IsWhole) (a3 : Memref sig .tc .vmem S1x512x1 .i32) (h3 : a3.IsWhole) (a4 : Memref sig .tc .vmem S1x512x4 .i32) (h4 : a4.IsWhole) (a5 : Memref sig .tc .vmem S1x512x32 .f32) (h5 : a5.IsWhole) (a6 : Memref sig .tc .vmem S1x1x8192 .i32) (h6 : a6.IsWhole)
    (X : Vec F S1x8192x33 .f32) (T : Vec F S1x32x8192 .f32) (s : FVec F S512x33 .f32) (col : IVec S512x1 32) (cs : IVec S512x4 32)
    (Q : (Σ' (v428 : FVec F S512x1 .f32) (v429 : FVec F S512x32 .bf16) (v430 : IVec S512x1 32) (v431 : FVec F S512x33 .f32), IVec S1x2048 32) → sProp 𝕄) :
    iprop(owns (c : Thread nD τ) a1 fullShare X ∗ owns (c : Thread nD τ) a2 fullShare T
      ∗ (iprop(owns (c : Thread nD τ) a1 fullShare X ∗ owns (c : Thread nD τ) a2 fullShare T)
          -∗ Q ⟨c2 (nxt X s col), cenT (nxt X s col), colR3 cs, z33, asg (nxt X s col) (View.ld T rT0)⟩))
    ⊢ wp frame (wpE (defs₀ (F := F)) Variants.none c none) Set.univ
      (k0_part15 i a1 h1 a2 h2 a3 h3 a4 h4 a5 h5 a6 h6 cs io0 io1 col s (cnt s) (isEmp (cnt s))) Q := by
  simp only [k0_part15_eq_skeleton]; unfold k0_part15_skel
  simp only [k0_part3_eq_skeleton]; unfold k0_part3_skel
  unfold owns
  iintro ⟨⟨%f1, %hf1, H1⟩, ⟨%f2, %hf2, H2⟩, Hk⟩
  subst hf1 hf2
  by_cases h : (Scalar.cmpi .ne (Scalar.extui (Scalar.cmpf .ogt (k0_pay59 (F := F) (isEmp (cnt s))) (Scalar.ofBits .f32 0x00000000#32)) : BitVec 32) 0#32) = 1#1
  · have h' : anyE s = 1#1 := h
    sl_exec
    sl_step
    refine swap_res (Q := Q) (r := ?rpos) ?hpos ?gpos
    case' gpos => iapply Hk
    isplitl [H1]
    · iexists f1; isplitr; · ipureintro; rfl
      iexact H1
    · iexists f2; isplitr; · ipureintro; rfl
      iexact H2
    simp only [nxt, repl, if_pos h']
    rfl
  · have h' : ¬ anyE s = 1#1 := h
    sl_exec
    sl_step
    refine swap_res (Q := Q) (r := ?rneg) ?hneg ?gneg
    case' gneg => iapply Hk
    isplitl [H1]
    · iexists f1; isplitr; · ipureintro; rfl
      iexact H1
    · iexists f2; isplitr; · ipureintro; rfl
      iexact H2
    simp only [nxt, repl, if_neg h']
    rfl

set_option maxHeartbeats 1000000 in
/-- Part 16 of the body stores the first two tiles' assignments and sums the first. -/
theorem wp_part16 (c : Dev nD) (i : grid0.Coords) (a1 : Memref sig .tc .vmem S1x8192x33 .f32) (h1 : a1.IsWhole) (a2 : Memref sig .tc .vmem S1x32x8192 .f32) (h2 : a2.IsWhole) (a3 : Memref sig .tc .vmem S1x512x1 .i32) (h3 : a3.IsWhole) (a4 : Memref sig .tc .vmem S1x512x4 .i32) (h4 : a4.IsWhole) (a5 : Memref sig .tc .vmem S1x512x32 .f32) (h5 : a5.IsWhole) (a6 : Memref sig .tc .vmem S1x1x8192 .i32) (h6 : a6.IsWhole)
    (X : Vec F S1x8192x33 .f32) (T : Vec F S1x32x8192 .f32) (cen : FVec F S512x32 .f32) (f6 : Buf (Elt F) (a6.view.loc (c : Thread nD τ)))
    (Q : (Σ' (v458 : FVec F S512x33 .f32) (v481 : FVec F S512x2048 .f32) (v483 : FVec F S2048x33 .f32), FVec F S512x33 .f32) → sProp 𝕄) :
    iprop(owns (c : Thread nD τ) a1 fullShare X ∗ owns (c : Thread nD τ) a2 fullShare T ∗ pt6 c a6 f6
      ∗ (iprop(owns (c : Thread nD τ) a1 fullShare X ∗ owns (c : Thread nD τ) a2 fullShare T ∗ pt6 c a6 (a6.view.writes (Elt F) f6 [⟨rA1, wA (asg cen (View.ld T rT1))⟩, ⟨rA0, wA (asg cen (View.ld T rT0))⟩]))
          -∗ Q ⟨(sum1 cen (View.ld T rT0) (View.ld X rX0)), ohA (asg cen (View.ld T rT1)), shapeCast S2048x33 (View.ld X rX1) shapeCasts_S1x2048x33_S2048x33, constant S512x33 .f32 0x00000000#32⟩))
    ⊢ wp frame (wpE (defs₀ (F := F)) Variants.none c none) Set.univ
      (k0_part16 i a1 h1 a2 h2 a3 h3 a4 h4 a5 h5 a6 h6 io0 (c2 cen) (cenT cen) z33 (asg cen (View.ld T rT0))) Q := by
  simp only [k0_part16_eq_skeleton]; unfold k0_part16_skel
  unfold owns
  iintro ⟨⟨%f1, %hf1, H1⟩, ⟨%f2, %hf2, H2⟩, H6, Hk⟩
  subst hf1 hf2
  sl_exec
  sl_step
  refine swap_res (Q := Q) (r := ?r) ?h ?g
  case' g => iapply Hk
  isplitl [H1]
  · iexists f1; isplitr; · ipureintro; rfl
    iexact H1
  isplitl [H2]
  · iexists f2; isplitr; · ipureintro; rfl
    iexact H2
  · iexact H6
  rfl

set_option maxHeartbeats 1000000 in
/-- Part 17 of the body stores the third tile's assignments and sums two tiles. -/
theorem wp_part17 (c : Dev nD) (i : grid0.Coords) (a1 : Memref sig .tc .vmem S1x8192x33 .f32) (h1 : a1.IsWhole) (a2 : Memref sig .tc .vmem S1x32x8192 .f32) (h2 : a2.IsWhole) (a3 : Memref sig .tc .vmem S1x512x1 .i32) (h3 : a3.IsWhole) (a4 : Memref sig .tc .vmem S1x512x4 .i32) (h4 : a4.IsWhole) (a5 : Memref sig .tc .vmem S1x512x32 .f32) (h5 : a5.IsWhole) (a6 : Memref sig .tc .vmem S1x1x8192 .i32) (h6 : a6.IsWhole)
    (X : Vec F S1x8192x33 .f32) (T : Vec F S1x32x8192 .f32) (cen : FVec F S512x32 .f32) (f6 : Buf (Elt F) (a6.view.loc (c : Thread nD τ)))
    (Q : (Σ' (v512 : FVec F S512x33 .f32) (v520 : FVec F S512x2048 .f32), FVec F S2048 .f32) → sProp 𝕄) :
    iprop(owns (c : Thread nD τ) a1 fullShare X ∗ owns (c : Thread nD τ) a2 fullShare T ∗ pt6 c a6 f6
      ∗ (iprop(owns (c : Thread nD τ) a1 fullShare X ∗ owns (c : Thread nD τ) a2 fullShare T ∗ pt6 c a6 (a6.view.writes (Elt F) f6 [⟨rA2, wA (asg cen (View.ld T rT2))⟩]))
          -∗ Q ⟨(sum3 cen (View.ld T rT0) (View.ld T rT1) (View.ld T rT2) (View.ld X rX0) (View.ld X rX1) (View.ld X rX2)), dist cen (View.ld T rT3), dmin (dist cen (View.ld T rT3))⟩))
    ⊢ wp frame (wpE (defs₀ (F := F)) Variants.none c none) Set.univ
      (k0_part17 i a1 h1 a2 h2 a3 h3 a4 h4 a5 h5 a6 h6 io0 (c2 cen) (cenT cen) (sum1 cen (View.ld T rT0) (View.ld X rX0)) (ohA (asg cen (View.ld T rT1))) (shapeCast S2048x33 (View.ld X rX1) shapeCasts_S1x2048x33_S2048x33) (constant S512x33 .f32 0x00000000#32)) Q := by
  simp only [k0_part17_eq_skeleton]; unfold k0_part17_skel
  unfold owns
  iintro ⟨⟨%f1, %hf1, H1⟩, ⟨%f2, %hf2, H2⟩, H6, Hk⟩
  subst hf1 hf2
  sl_exec
  sl_step
  refine swap_res (Q := Q) (r := ?r) ?h ?g
  case' g => iapply Hk
  isplitl [H1]
  · iexists f1; isplitr; · ipureintro; rfl
    iexact H1
  isplitl [H2]
  · iexists f2; isplitr; · ipureintro; rfl
    iexact H2
  · iexact H6
  rfl

set_option maxHeartbeats 1000000 in
/-- Part 18 of the body stores the fourth tile's assignments and updates the centroids. -/
theorem wp_part18 (c : Dev nD) (i : grid0.Coords) (a1 : Memref sig .tc .vmem S1x8192x33 .f32) (h1 : a1.IsWhole) (a2 : Memref sig .tc .vmem S1x32x8192 .f32) (h2 : a2.IsWhole) (a3 : Memref sig .tc .vmem S1x512x1 .i32) (h3 : a3.IsWhole) (a4 : Memref sig .tc .vmem S1x512x4 .i32) (h4 : a4.IsWhole) (a5 : Memref sig .tc .vmem S1x512x32 .f32) (h5 : a5.IsWhole) (a6 : Memref sig .tc .vmem S1x1x8192 .i32) (h6 : a6.IsWhole)
    (X : Vec F S1x8192x33 .f32) (T : Vec F S1x32x8192 .f32) (cen : FVec F S512x32 .f32) (col : IVec S512x1 32) (f6 : Buf (Elt F) (a6.view.loc (c : Thread nD τ)))
    (Q : (FVec F S512x32 .f32) → sProp 𝕄) :
    iprop(owns (c : Thread nD τ) a1 fullShare X ∗ owns (c : Thread nD τ) a2 fullShare T ∗ pt6 c a6 f6
      ∗ (iprop(owns (c : Thread nD τ) a1 fullShare X ∗ owns (c : Thread nD τ) a2 fullShare T ∗ pt6 c a6 (a6.view.writes (Elt F) f6 [⟨rA3, wA (asg cen (View.ld T rT3))⟩]))
          -∗ Q (nxt X (sm X T cen) col)))
    ⊢ wp frame (wpE (defs₀ (F := F)) Variants.none c none) Set.univ
      (k0_part18 i a1 h1 a2 h2 a3 h3 a4 h4 a5 h5 a6 h6 io0 io1 col (sum3 cen (View.ld T rT0) (View.ld T rT1) (View.ld T rT2) (View.ld X rX0) (View.ld X rX1) (View.ld X rX2)) (dist cen (View.ld T rT3)) (dmin (dist cen (View.ld T rT3)))) Q := by
  simp only [k0_part18_eq_skeleton]; unfold k0_part18_skel
  simp only [k0_part4_eq_skeleton]; unfold k0_part4_skel
  unfold owns
  iintro ⟨⟨%f1, %hf1, H1⟩, ⟨%f2, %hf2, H2⟩, H6, Hk⟩
  subst hf1 hf2
  by_cases h : (Scalar.cmpi .ne (Scalar.extui (Scalar.cmpf .ogt (k0_pay83 io0 (sum3 cen (View.ld (a2.view.read (Elt F) f2) rT0) (View.ld (a2.view.read (Elt F) f2) rT1) (View.ld (a2.view.read (Elt F) f2) rT2) (View.ld (a1.view.read (Elt F) f1) rX0) (View.ld (a1.view.read (Elt F) f1) rX1) (View.ld (a1.view.read (Elt F) f1) rX2)) (dist cen (View.ld (a2.view.read (Elt F) f2) rT3)) (dmin (dist cen (View.ld (a2.view.read (Elt F) f2) rT3))) (View.ld (a1.view.read (Elt F) f1) rX3)) (Scalar.ofBits .f32 0x00000000#32)) : BitVec 32) 0#32) = 1#1
  · have h' : anyE (sm (a1.view.read (Elt F) f1) (a2.view.read (Elt F) f2) cen) = 1#1 := h
    sl_exec
    sl_step
    refine swap_res (Q := Q) (r := ?rpos) ?hpos ?gpos
    case' gpos => iapply Hk
    isplitl [H1]
    · iexists f1; isplitr; · ipureintro; rfl
      iexact H1
    isplitl [H2]
    · iexists f2; isplitr; · ipureintro; rfl
      iexact H2
    · iexact H6
    simp only [nxt, repl, if_pos h']
    rfl
  · have h' : ¬ anyE (sm (a1.view.read (Elt F) f1) (a2.view.read (Elt F) f2) cen) = 1#1 := h
    sl_exec
    sl_step
    refine swap_res (Q := Q) (r := ?rneg) ?hneg ?gneg
    case' gneg => iapply Hk
    isplitl [H1]
    · iexists f1; isplitr; · ipureintro; rfl
      iexact H1
    isplitl [H2]
    · iexists f2; isplitr; · ipureintro; rfl
      iexact H2
    · iexact H6
    simp only [nxt, repl, if_neg h']
    rfl

/-- The centroids' block the body leaves. -/
def outC (X : Vec F S1x8192x33 .f32) (T : Vec F S1x32x8192 .f32) (C : Vec F S1x512x1 .i32) (R : Vec F S1x512x4 .i32) : Vec F S1x512x32 .f32 :=
  View.canon [⟨rO, k0_pay1 (cen4 X T C R)⟩]
/-- The assignments' block the body leaves. -/
def outA (X : Vec F S1x8192x33 .f32) (T : Vec F S1x32x8192 .f32) (C : Vec F S1x512x1 .i32) (R : Vec F S1x512x4 .i32) : Vec F S1x1x8192 .i32 :=
  View.canon [⟨rA3, wA (asg (cen3 X T C R) (View.ld T rT3))⟩, ⟨rA2, wA (asg (cen3 X T C R) (View.ld T rT2))⟩,
    ⟨rA1, wA (asg (cen3 X T C R) (View.ld T rT1))⟩, ⟨rA0, wA (asg (cen3 X T C R) (View.ld T rT0))⟩]
/-- The one store of the centroids fills their block. -/
theorem coverC (p : Vec F S1x512x32 .f32) (y : S1x512x32.Idx) :
    ∃ pc ∈ ([⟨rO, p⟩] : List (View.Piece (Elt F) S1x512x32 .f32)), y ∈ pc.1.set :=
  View.cover_of_tiled [⟨rO, p⟩] S1x512x32.size (by rfl) y
/-- The four stores of the assignments fill their block. -/
theorem coverA (p0 p1 p2 p3 : Vec F S1x1x2048 .i32) (y : S1x1x8192.Idx) :
    ∃ pc ∈ ([⟨rA3, p0⟩, ⟨rA2, p1⟩, ⟨rA1, p2⟩, ⟨rA0, p3⟩] : List (View.Piece (Elt F) S1x1x8192 .i32)), y ∈ pc.1.set :=
  View.cover_of_tiled [⟨rA3, p0⟩, ⟨rA2, p1⟩, ⟨rA1, p2⟩, ⟨rA0, p3⟩] S1x1x2048.size (by rfl) y

set_option maxHeartbeats 1000000 in
/-- The whole body: the two results' blocks end at `outC` and `outA` of the four input blocks. -/
theorem sound_kernel (c : Dev nD) (i : grid0.Coords) (a1 : Memref sig .tc .vmem S1x8192x33 .f32) (h1 : a1.IsWhole) (a2 : Memref sig .tc .vmem S1x32x8192 .f32) (h2 : a2.IsWhole) (a3 : Memref sig .tc .vmem S1x512x1 .i32) (h3 : a3.IsWhole) (a4 : Memref sig .tc .vmem S1x512x4 .i32) (h4 : a4.IsWhole) (a5 : Memref sig .tc .vmem S1x512x32 .f32) (h5 : a5.IsWhole) (a6 : Memref sig .tc .vmem S1x1x8192 .i32) (h6 : a6.IsWhole)
    (X : Vec F S1x8192x33 .f32) (T : Vec F S1x32x8192 .f32) (C : Vec F S1x512x1 .i32) (R : Vec F S1x512x4 .i32) (Q : PUnit → sProp 𝕄) :
    iprop(owns (c : Thread nD τ) a1 fullShare X ∗ owns (c : Thread nD τ) a2 fullShare T ∗ owns (c : Thread nD τ) a3 fullShare C ∗ owns (c : Thread nD τ) a4 fullShare R
      ∗ (∃ d, owns (c : Thread nD τ) a5 fullShare d) ∗ (∃ d, owns (c : Thread nD τ) a6 fullShare d)
      ∗ (iprop(owns (c : Thread nD τ) a1 fullShare X ∗ owns (c : Thread nD τ) a2 fullShare T ∗ owns (c : Thread nD τ) a3 fullShare C ∗ owns (c : Thread nD τ) a4 fullShare R
          ∗ owns (c : Thread nD τ) a5 fullShare (outC X T C R) ∗ owns (c : Thread nD τ) a6 fullShare (outA X T C R)) -∗ Q ⟨⟩))
    ⊢ wp frame (wpE (defs₀ (F := F)) Variants.none c none) Set.univ (cc0__kmeans_body i a1 h1 a2 h2 a3 h3 a4 h4 a5 h5 a6 h6) Q := by
  simp only [cc0__kmeans_body_eq_skeleton]; unfold cc0__kmeans_body_skel
  iintro ⟨H1, H2, H3, H4, ⟨%d5, H5⟩, ⟨%d6, H6⟩, Hk⟩
  rw [wp_bind]
  iapply (wp_part5 c i a1 h1 a2 h2 a3 h3 a4 h4 a5 h5 a6 h6 X T C R _)
  isplitl [H1]; · iexact H1
  isplitl [H2]; · iexact H2
  isplitl [H3]; · iexact H3
  isplitl [H4]; · iexact H4
  iintro ⟨H1, H2, H3, H4⟩
  rw [wp_bind]
  iapply (wp_part6 c i a1 h1 a2 h2 a3 h3 a4 h4 a5 h5 a6 h6 X T (colC (View.ld C rC)) (colsR (View.ld R rR)) _)
  isplitl [H1]; · iexact H1
  isplitl [H2]; · iexact H2
  iintro ⟨H1, H2⟩
  rw [wp_bind]
  iapply (wp_part7 c i a1 h1 a2 h2 a3 h3 a4 h4 a5 h5 a6 h6 X T (cen0 X C) _)
  isplitl [H1]; · iexact H1
  isplitl [H2]; · iexact H2
  iintro ⟨H1, H2⟩
  rw [wp_bind]
  iapply (wp_part8 c i a1 h1 a2 h2 a3 h3 a4 h4 a5 h5 a6 h6 X T (cen0 X C) _)
  isplitl [H1]; · iexact H1
  isplitl [H2]; · iexact H2
  iintro ⟨H1, H2⟩
  rw [wp_bind]
  iapply (wp_part9 c i a1 h1 a2 h2 a3 h3 a4 h4 a5 h5 a6 h6 X T (sm X T (cen0 X C)) (colR0 (colsR (View.ld R rR))) (colsR (View.ld R rR)) _)
  isplitl [H1]; · iexact H1
  isplitl [H2]; · iexact H2
  iintro ⟨H1, H2⟩
  rw [wp_bind]
  iapply (wp_part10 c i a1 h1 a2 h2 a3 h3 a4 h4 a5 h5 a6 h6 X T (cen1 X T C R) _)
  isplitl [H1]; · iexact H1
  isplitl [H2]; · iexact H2
  iintro ⟨H1, H2⟩
  rw [wp_bind]
  iapply (wp_part11 c i a1 h1 a2 h2 a3 h3 a4 h4 a5 h5 a6 h6 X T (cen1 X T C R) _)
  isplitl [H1]; · iexact H1
  isplitl [H2]; · iexact H2
  iintro ⟨H1, H2⟩
  rw [wp_bind]
  iapply (wp_part12 c i a1 h1 a2 h2 a3 h3 a4 h4 a5 h5 a6 h6 X T (sm X T (cen1 X T C R)) (colR1 (colsR (View.ld R rR))) (colsR (View.ld R rR)) _)
  isplitl [H1]; · iexact H1
  isplitl [H2]; · iexact H2
  iintro ⟨H1, H2⟩
  rw [wp_bind]
  iapply (wp_part13 c i a1 h1 a2 h2 a3 h3 a4 h4 a5 h5 a6 h6 X T (cen2 X T C R) _)
  isplitl [H1]; · iexact H1
  isplitl [H2]; · iexact H2
  iintro ⟨H1, H2⟩
  rw [wp_bind]
  iapply (wp_part14 c i a1 h1 a2 h2 a3 h3 a4 h4 a5 h5 a6 h6 X T (cen2 X T C R) _)
  isplitl [H1]; · iexact H1
  isplitl [H2]; · iexact H2
  iintro ⟨H1, H2⟩
  rw [wp_bind]
  iapply (wp_part15 c i a1 h1 a2 h2 a3 h3 a4 h4 a5 h5 a6 h6 X T (sm X T (cen2 X T C R)) (colR2 (colsR (View.ld R rR))) (colsR (View.ld R rR)) _)
  isplitl [H1]; · iexact H1
  isplitl [H2]; · iexact H2
  iintro ⟨H1, H2⟩
  icases (show owns (c : Thread nD τ) a6 fullShare d6 ⊢ (iprop(∃ f, pt6 c a6 f) : sProp 𝕄) from by
    unfold owns; iintro ⟨%f, -, H⟩; iexists f; iexact H) $$ H6 with ⟨%f6, H6⟩
  rw [wp_bind]
  iapply (wp_part16 c i a1 h1 a2 h2 a3 h3 a4 h4 a5 h5 a6 h6 X T (cen3 X T C R) _ _)
  isplitl [H1]; · iexact H1
  isplitl [H2]; · iexact H2
  isplitl [H6]; · iexact H6
  iintro ⟨H1, H2, H6⟩
  rw [wp_bind]
  iapply (wp_part17 c i a1 h1 a2 h2 a3 h3 a4 h4 a5 h5 a6 h6 X T (cen3 X T C R) _ _)
  isplitl [H1]; · iexact H1
  isplitl [H2]; · iexact H2
  isplitl [H6]; · iexact H6
  iintro ⟨H1, H2, H6⟩
  rw [wp_bind]
  iapply (wp_part18 c i a1 h1 a2 h2 a3 h3 a4 h4 a5 h5 a6 h6 X T (cen3 X T C R) (colR3 (colsR (View.ld R rR))) _ _)
  isplitl [H1]; · iexact H1
  isplitl [H2]; · iexact H2
  isplitl [H6]; · iexact H6
  iintro ⟨H1, H2, H6⟩
  unfold owns
  icases H5 with ⟨%f5, -, H5⟩
  sl_exec
  sl_step
  iapply Hk
  isplitl [H1]; · iexact H1
  isplitl [H2]; · iexact H2
  isplitl [H3]; · iexact H3
  isplitl [H4]; · iexact H4
  isplitl [H5]
  · iexists _; isplitr
    swap; · iexact H5
    ipureintro
    exact View.read_writes_eq_canon _ _ _ (coverC _)
  iexists _; isplitr
  swap; · iexact H6
  ipureintro
  rw [← View.writes_append, ← View.writes_append]
  exact View.read_writes_eq_canon _ _ _ (coverA _ _ _ _)

end Cert.KernelIdeal.Km

end
-- ==== Proof.Run.lean ====
/-
  The kernel's run, over any float values: its three arguments end unchanged, every counter at zero, and the two
  results' arrays at the blocks the body leaves at each point.
-/
module

public import proofs.«01_k».proof.Proof.Body

@[expose] public section

set_option maxRecDepth 16384

noncomputable section

namespace Cert.KernelIdeal.Km

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the region finds and what the body leaves at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outC (iblk m c 0 t) (iblk m c 1 t) (iblk m c 2 t) (iblk m c 3 t)
    | ⟨5, _⟩ => outA (iblk m c 0 t) (iblk m c 1 t) (iblk m c 2 t) (iblk m c 3 t)
  Φ _ := Pipeline.ΦA spec0 c
  q _ := fullShare
  owed _ := 0

/-- The arrays are as the region finds them. -/
theorem A_eq (c : Dev nD) (w : Fin cfg0.W) : (dats m 0 c).A w = V m c (Pipeline.arrRef spec0 w) := rfl
/-- The points stay in their buffer, -/
theorem after0_0 (c : Dev nD) (t : Fin cfg0.N) : (dats m 0 c).after 0 t = iblk m c 0 t := by dsimp only [dats]
/-- and their transpose, -/
theorem after0_1 (c : Dev nD) (t : Fin cfg0.N) : (dats m 0 c).after 1 t = iblk m c 1 t := by dsimp only [dats]
/-- the first numbers, -/
theorem after0_2 (c : Dev nD) (t : Fin cfg0.N) : (dats m 0 c).after 2 t = iblk m c 2 t := by dsimp only [dats]
/-- and the draws. -/
theorem after0_3 (c : Dev nD) (t : Fin cfg0.N) : (dats m 0 c).after 3 t = iblk m c 3 t := by dsimp only [dats]
/-- The body leaves the centroids -/
theorem after0_4 (c : Dev nD) (t : Fin cfg0.N) : (dats m 0 c).after 4 t
    = outC (iblk m c 0 t) (iblk m c 1 t) (iblk m c 2 t) (iblk m c 3 t) := by dsimp only [dats]
/-- and the assignments. -/
theorem after0_5 (c : Dev nD) (t : Fin cfg0.N) : (dats m 0 c).after 5 t
    = outA (iblk m c 0 t) (iblk m c 1 t) (iblk m c 2 t) (iblk m c 3 t) := by dsimp only [dats]
/-- The body finds the points in their buffer, -/
theorem before0_0 (c : Dev nD) (t : Fin cfg0.N) (d) : (dats m 0 c).before 0 t d = iblk m c 0 t :=
  before0_0_of m (dats m 0 c) (A_eq m c 0) (after0_0 m c) t d
/-- their transpose, -/
theorem before0_1 (c : Dev nD) (t : Fin cfg0.N) (d) : (dats m 0 c).before 1 t d = iblk m c 1 t :=
  before0_1_of m (dats m 0 c) (A_eq m c 1) (after0_1 m c) t d
/-- the first numbers, -/
theorem before0_2 (c : Dev nD) (t : Fin cfg0.N) (d) : (dats m 0 c).before 2 t d = iblk m c 2 t :=
  before0_2_of m (dats m 0 c) (A_eq m c 2) (after0_2 m c) t d
/-- and the draws. -/
theorem before0_3 (c : Dev nD) (t : Fin cfg0.N) (d) : (dats m 0 c).before 3 t d = iblk m c 3 t :=
  before0_3_of m (dats m 0 c) (A_eq m c 3) (after0_3 m c) t d

/-- What the body starts from at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
/-- What it ends with. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at a point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c (grid0.coords t) _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- So the pipeline's obligation on the body holds. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- The run: the pipeline's arrays at their final contents, the host line after it done, every counter at zero. -/
theorem run_main : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the three arguments end unchanged and every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_with_sems (frame_of m ρ (dats m) (A_eq m)) (run_main m ρ)

end Cert.KernelIdeal.Km

end
-- ==== Proof.KArr.lean ====
/-
  The kernel's two results on real points: the centroids after four rounds, and each point's nearest of those after three.
-/
module

public import proofs.«01_k».proof.Proof.KVal
public import proofs.«01_k».proof.Proof.Run
public import Idealize.ShloMosaic.Lib.Pipeline.ValueKit
public import Idealize.ShloMosaic.Lib.StableHlo.ReadAt
public import Idealize.ShloMosaic.Lib.Claim

@[expose] public section

set_option maxRecDepth 16384

noncomputable section

namespace Cert.KernelIdeal.Km

open Cert.KernelIdeal Cert.KernelIdeal.Gen Cert.Means
open Idealize.ShloMosaic Idealize.ShloMosaic.TcCoe Idealize.SL.Sem
open Idealize.ShloMosaic.Pipeline (Dat)

variable (m : (ℓ : Loc nD τ sig) → Buf (Elt Ideal) ℓ)

/-- The windows' blocks: point `t` has the `t`-th of each array. -/
theorem idx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0] :=
  (by decide +kernel : ∀ t : Fin grid0.N, _)

/-- The point's set. -/
def bt (t : Fin cfg0.N) : Fin 4 := ⟨t.val, t.isLt⟩

/-- The points the region finds: the argument's, -/
theorem V1_at (c : Dev nD) (b : Fin 4) (n : Fin 8192) (d : Fin 32) : (V m c main_v1 : FVec Ideal S4x8192x33 .f32) (ix3 b n ⟨d, by omega⟩)
    = (m ((c : Thread nD τ).loc main_arg0) : FVec Ideal S4x8192x32 .f32) (ix3 b n d) := by
  unfold V V0
  simp only [hostOps0, List.flatten_cons, List.flatten_nil, List.append_nil]
  after_reads_at
/-- a one beside each; -/
theorem V1_one (c : Dev nD) (b : Fin 4) (n : Fin 8192) : (V m c main_v1 : FVec Ideal S4x8192x33 .f32) (ix3 b n 32) = (1 : EReal) := by
  unfold V V0
  simp only [hostOps0, List.flatten_cons, List.flatten_nil, List.append_nil]
  after_reads_at
/-- and their transpose. -/
theorem V2_at (c : Dev nD) (b : Fin 4) (n : Fin 8192) (d : Fin 32) : (V m c main_v2 : FVec Ideal S4x32x8192 .f32) (ix3 b d n)
    = (m ((c : Thread nD τ).loc main_arg0) : FVec Ideal S4x8192x32 .f32) (ix3 b n d) := by
  unfold V V0
  simp only [hostOps0, List.flatten_cons, List.flatten_nil, List.append_nil]
  after_reads_at

section vals

variable (c : Dev nD) (x : Fin 4 → Fin 8192 → Fin 32 → ℝ) (q : Fin 4 → Fin 512 → Fin 8192) (r : Fin 4 → Fin 4 → Fin 512 → Fin 8192)
  (hx : ∀ b n d, (m ((c : Thread nD τ).loc main_arg0) : FVec Ideal S4x8192x32 .f32) (ix3 b n d) = ((x b n d : ℝ) : EReal))
  (hq : ∀ b k, (m ((c : Thread nD τ).loc main_arg1) : IVec S4x512x1 32) (ix3 b k 0) = BitVec.ofNat 32 (q b k))
  (hr : ∀ b k i, (m ((c : Thread nD τ).loc main_arg2) : IVec S4x512x4 32) (ix3 b k i) = BitVec.ofNat 32 (r b i k))

include hx in
/-- A block holds its set's points. -/
theorem blk_holds (t : Fin cfg0.N) : Holds (iblk m c 0 t) (iblk m c 1 t) (x (bt t)) := by
  refine ⟨fun n d => ?_, fun n => ?_, fun n d => ?_⟩
  · rw [← hx, ← V1_at m c (bt t) n d]
    blk_ext [iblk, idx t, bt]
  · rw [← V1_one m c (bt t) n]
    blk_ext [iblk, idx t, bt]
  · rw [← hx, ← V2_at m c (bt t) n d]
    blk_ext [iblk, idx t, bt]

include hq in
/-- And its set's first numbers, -/
theorem blk_num (t : Fin cfg0.N) (k : Fin 512) : (iblk m c 2 t : IVec S1x512x1 32) (ix3 0 k 0) = BitVec.ofNat 32 (q (bt t) k) := by
  rw [← hq]
  blk_ext [iblk, V, idx t, bt]

include hr in
/-- and draws. -/
theorem blk_draw (t : Fin cfg0.N) (k : Fin 512) (i : Fin 4) : (iblk m c 3 t : IVec S1x512x4 32) (ix3 0 k i) = BitVec.ofNat 32 (r (bt t) i k) := by
  rw [← hr]
  blk_ext [iblk, V, idx t, bt]

/-- The centroids the body leaves. -/
theorem outC_at (X : Vec Ideal S1x8192x33 .f32) (T : Vec Ideal S1x32x8192 .f32) (C : Vec Ideal S1x512x1 .i32) (R : Vec Ideal S1x512x4 .i32)
    (y : S1x512x32.Idx) : outC X T C R y = cen4 X T C R (ix2 (y 1) (y 2)) := by
  unfold outC
  canon_tiles z h
  pointwise [k0_pay1]
  exact congrArg₂ (fun a b => cen4 X T C R (ix2 a b)) (Fin.ext h1.symm) (Fin.ext h2.symm)

/-- A stored tile of assignments, entry by entry. -/
theorem wA_at (a : IVec S1x2048 32) (y : S1x1x2048.Idx) : wA a y = a (ix2 0 (y 2)) := by
  pointwise [wA]

/-- The assignments the body leaves. -/
theorem outA_at (X : Vec Ideal S1x8192x33 .f32) (T : Vec Ideal S1x32x8192 .f32) (C : Vec Ideal S1x512x1 .i32) (R : Vec Ideal S1x512x4 .i32)
    (x : Fin 8192 → Fin 32 → ℝ) (hx : Holds X T x) (q : Fin 512 → Fin 8192) (hq : ∀ k, C (ix3 0 k 0) = BitVec.ofNat 32 (q k))
    (r : Fin 4 → Fin 512 → Fin 8192) (hr : ∀ k i, R (ix3 0 k i) = BitVec.ofNat 32 (r i k)) (y : S1x1x8192.Idx) :
    outA X T C R y = BitVec.ofNat 32 (near (three x q r) x (y 2)) := by
  have hc := cen3_at X T C R x hx q hq r hr
  unfold outA
  canon_tiles z h
  · rw [wA_at, show y 2 = ⟨6144 + (z 2 : ℕ), lt_of_eq_of_lt h2.symm (y 2).isLt⟩ from Fin.ext h2]
    exact asg_pt _ _ _ x hc 6144 (by omega) (ldT3 T x hx.tr) (z 2)
  · rw [wA_at, show y 2 = ⟨4096 + (z 2 : ℕ), lt_of_eq_of_lt h2.symm (y 2).isLt⟩ from Fin.ext h2]
    exact asg_pt _ _ _ x hc 4096 (by omega) (ldT2 T x hx.tr) (z 2)
  · rw [wA_at, show y 2 = ⟨2048 + (z 2 : ℕ), lt_of_eq_of_lt h2.symm (y 2).isLt⟩ from Fin.ext h2]
    exact asg_pt _ _ _ x hc 2048 (by omega) (ldT1 T x hx.tr) (z 2)
  · rw [wA_at, show y 2 = ⟨0 + (z 2 : ℕ), lt_of_eq_of_lt (h2.trans (Nat.zero_add _).symm).symm (y 2).isLt⟩ from Fin.ext (h2.trans (Nat.zero_add _).symm)]
    exact asg_pt _ _ _ x hc 0 (by omega) (ldT0 T x hx.tr) (z 2)

include hx hq hr

/-- The centroids' array at the end. -/
theorem final_cen : (dats m 0 c).arrAt 4 cfg0.N = (fun j : S4x512x32.Idx =>
    ((turn (x (j 0)) (r (j 0) 3) (three (x (j 0)) (q (j 0)) (r (j 0))) (j 1) (j 2) : ℝ) : EReal)) := by
  refine (dats m 0 c).arrAt_eq_of_covers 4 _ (by decide +kernel) fun t _ y => ?_
  blk_simp
  rw [after0_4]
  have key : ∀ (b : Fin 4) (k : Fin 512) (d : Fin 32), b = bt t → k = y 1 → d = y 2 →
      outC (iblk m c 0 t) (iblk m c 1 t) (iblk m c 2 t) (iblk m c 3 t) y
        = ((turn (x b) (r b 3) (three (x b) (q b) (r b)) k d : ℝ) : EReal) := by
    rintro _ _ _ rfl rfl rfl
    exact (outC_at _ _ _ _ y).trans (cen4_at _ _ _ _ _ (blk_holds m c x hx t) _ (blk_num m c q hq t) _ (blk_draw m c r hr t) (y 1) (y 2))
  refine key _ _ _ ?_ ?_ ?_ <;> (apply Fin.ext; blk_simp [idx t, bt]; try omega)

/-- The assignments' array at the end. -/
theorem final_asg : (dats m 0 c).arrAt 5 cfg0.N = (fun j : S4x1x8192.Idx =>
    BitVec.ofNat 32 (near (three (x (j 0)) (q (j 0)) (r (j 0))) (x (j 0)) (j 2))) := by
  refine (dats m 0 c).arrAt_eq_of_covers 5 _ (by decide +kernel) fun t _ y => ?_
  blk_simp
  rw [after0_5]
  have key : ∀ (b : Fin 4) (n : Fin 8192), b = bt t → n = y 2 →
      outA (iblk m c 0 t) (iblk m c 1 t) (iblk m c 2 t) (iblk m c 3 t) y
        = BitVec.ofNat 32 (near (three (x b) (q b) (r b)) (x b) n) := by
    rintro _ _ rfl rfl
    exact outA_at _ _ _ _ _ (blk_holds m c x hx t) _ (blk_num m c q hq t) _ (blk_draw m c r hr t) y
  refine key _ _ ?_ ?_ <;> (apply Fin.ext; blk_simp [idx t, bt]; try omega)

end vals

/-- The second result: the assignments' array without its middle axis. -/
theorem v4_eq (c : Dev nD) (j : S4x8192.Idx) : (Pipeline.afterTail₀ cfgs (dats m) 0 (V0 m) [hostOps1] c main_v4 : IVec S4x8192 32) j
    = ((dats m 0 c).arrAt 5 cfg0.N : IVec S4x1x8192 32) (ix3 (j 0) 0 (j 1)) := by
  unfold Pipeline.afterTail₀
  simp only [hostOps1, List.flatten_cons, List.flatten_nil, List.append_nil]
  after_reads_simp
  have hs : ∀ a : IVec S4x1x8192 32, shapeCast S4x8192 a shapeCasts_S4x1x8192_S4x8192 j = a (ix3 (j 0) 0 (j 1)) := fun a => by pointwise
  exact (hs _).trans (congrFun (Pipeline.withArrays_arr spec0 (by decide) c (V0 m c) (fun w => (dats m 0 c).arrAt w (cfgs 0).N) 5) _)

/-- The kernel's run on real points: the centroids after four rounds, each point's nearest of those after three, and the
    arguments unchanged. -/
theorem run_real (ρ : Dev nD → PrngReg) (x : Dev nD → Fin 4 → Fin 8192 → Fin 32 → ℝ) (q : Dev nD → Fin 4 → Fin 512 → Fin 8192)
    (r : Dev nD → Fin 4 → Fin 4 → Fin 512 → Fin 8192)
    (hx : ∀ (c : Dev nD) b n d, (m ((c.tc : Thread nD τ).loc main_arg0) : FVec Ideal S4x8192x32 .f32) (ix3 b n d) = ((x c b n d : ℝ) : EReal))
    (hq : ∀ (c : Dev nD) b k, (m ((c.tc : Thread nD τ).loc main_arg1) : IVec S4x512x1 32) (ix3 b k 0) = BitVec.ofNat 32 (q c b k))
    (hr : ∀ (c : Dev nD) b k i, (m ((c.tc : Thread nD τ).loc main_arg2) : IVec S4x512x4 32) (ix3 b k i) = BitVec.ofNat 32 (r c b i k)) :
    θ_run (defs (F := Ideal)) (onTc (τ := τ) (main (F := Ideal))) ⟨m, fun _ => 0, ρ⟩ (fun s => ∀ c : Dev nD,
      s.2.mem ((c.tc : Thread nD τ).loc main_v3_0) = (fun j : S4x512x32.Idx =>
        ((turn (x c (j 0)) (r c (j 0) 3) (three (x c (j 0)) (q c (j 0)) (r c (j 0))) (j 1) (j 2) : ℝ) : EReal))
      ∧ s.2.mem ((c.tc : Thread nD τ).loc main_v4) = (fun j : S4x8192.Idx =>
        BitVec.ofNat 32 (near (three (x c (j 0)) (q c (j 0)) (r c (j 0))) (x c (j 0)) (j 1)))
      ∧ s.2.mem ((c.tc : Thread nD τ).loc main_arg0) = m ((c.tc : Thread nD τ).loc main_arg0)
      ∧ s.2.mem ((c.tc : Thread nD τ).loc main_arg1) = m ((c.tc : Thread nD τ).loc main_arg1)
      ∧ s.2.mem ((c.tc : Thread nD τ).loc main_arg2) = m ((c.tc : Thread nD τ).loc main_arg2)) := by
  refine (θ_run defs _ _).mono (fun s h c => ⟨?_, ?_, (h.2.1 c).1, (h.2.1 c).2.1, (h.2.1 c).2.2⟩) (θ_run_and (run_main m ρ) (frame_any m ρ))
  · exact ((h.1.1 c).1 4).trans (final_cen m c (x c) (q c) (r c) (hx c) (hq c) (hr c))
  · refine ((h.1.1 c).2 main_v4 (by decide)).trans (funext fun j => ?_)
    refine (v4_eq m c j).trans ?_
    rw [final_asg m c (x c) (q c) (r c) (hx c) (hq c) (hr c)]
    rfl

end Cert.KernelIdeal.Km

end
-- ==== Proof.RefSpec.lean ====
/-
  The values the reference computes, over any float values: the points a table of numbers names, the nearest centroid
  of each point, and the centroids after a round.
-/
module

public import proofs.«01_k».proof.Proof.Gen.ReferenceIdeal

@[expose] public section

noncomputable section

namespace Cert.ReferenceIdeal.Km

open Cert.ReferenceIdeal Cert.ReferenceIdeal.Gen
open Idealize.ShloMosaic

variable {F : FTy → Type} [FloatOps F]

/-- A number below zero counts from the end. -/
def wrap (i : IVec S4x512x32 32) : IVec S4x512x32x1 32 :=
  shapeCast S4x512x32x1 (select (cmpi .slt i (broadcastInDim S4x512x32 ![] bcast_S_S4x512x32 (constantI S_ 32 0#32)))
    (addi i (broadcastInDim S4x512x32 ![] bcast_S_S4x512x32 (constantI S_ 32 8192#32))) i)
    shapeCasts_S4x512x32_S4x512x32x1
/-- Where a number names a point. -/
def inRange (k : IVec S4x512x32x1 32) : IVec S4x512x32 1 :=
  Host.reduce IntOp.andi (andi
    (cmpi .sge k (broadcastInDim S4x512x32x1 ![] bcast_S_S4x512x32x1 (constantI S_ 32 0#32)))
    (cmpi .sle k (broadcastInDim S4x512x32x1 ![0, 1, 2, 3] bcast_S1x1x1x1_S4x512x32x1_0_1_2_3
      (broadcastInDim S1x1x1x1 ![3] bcast_S1_S1x1x1x1_3 (constantI S1 32 8191#32)))))
    (constantI S_ 1 1#1) reducesTo_S4x512x32x1_S4x512x32_d3 h_S_
/-- The points a table of numbers names. -/
def take (x : FVec F S4x8192x32 .f32) (i : IVec S4x512x32 32) : FVec F S4x512x32 .f32 :=
  select (inRange (wrap i)) (Host.gather gather_S4x8192x32_S4x512x32x1_S4x512x32_n_1_02_02_1_3_111 x (wrap i))
    (broadcastInDim S4x512x32 ![] bcast_S_S4x512x32 (constant S_ .f32 0x7FC00000#32))
/-- A number for each centroid, as the table of numbers. -/
def table (d : IVec S4x512x1 32) : IVec S4x512x32 32 :=
  broadcastInDim S4x512x32 ![0, 1, 2] bcast_S4x512x1_S4x512x32_0_1_2
    (broadcastInDim S4x512x1 ![0, 1] bcast_S4x512_S4x512x1_0_1 (shapeCast S4x512 d shapeCasts_S4x512x1_S4x512))
/-- The points drawn, one for each centroid. -/
def pick (x : FVec F S4x8192x32 .f32) (d : IVec S4x512x1 32) : FVec F S4x512x32 .f32 := take x (table d)
/-- Each point's squared length. -/
def sqX (x : FVec F S4x8192x32 .f32) : FVec F S4x8192 .f32 :=
  Host.reduceAdd (mulf x x) (constant S_ .f32 0x00000000#32) reducesTo_S4x8192x32_S4x8192_d2 h_S_
/-- Each centroid's squared length. -/
def sqC (cen : FVec F S4x512x32 .f32) : FVec F S4x512 .f32 :=
  Host.reduceAdd (mulf cen cen) (constant S_ .f32 0x00000000#32) reducesTo_S4x512x32_S4x512_d2 h_S_
/-- The squared distances. -/
def dist (x : FVec F S4x8192x32 .f32) (cen : FVec F S4x512x32 .f32) : FVec F S4x8192x512 .f32 :=
  subf (addf
    (broadcastInDim S4x8192x512 ![0, 1, 2] bcast_S4x8192x1_S4x8192x512_0_1_2
      (broadcastInDim S4x8192x1 ![0, 1] bcast_S4x8192_S4x8192x1_0_1 (sqX x)))
    (broadcastInDim S4x8192x512 ![0, 1, 2] bcast_S4x1x512_S4x8192x512_0_1_2
      (broadcastInDim S4x1x512 ![0, 2] bcast_S4x512_S4x1x512_0_2 (sqC cen))))
    (mulf (broadcastInDim S4x8192x512 ![] bcast_S_S4x8192x512 (constant S_ .f32 0x40000000#32))
      (Host.dotGeneral dot_S4x8192x32_S4x512x32_S4x8192x512_2_2_1_1_0_0 none x cen))
/-- The nearest centroid of each point. -/
def asg (x : FVec F S4x8192x32 .f32) (cen : FVec F S4x512x32 .f32) : IVec S4x8192 32 :=
  fun j => (Host.argReduce reducer_argmin_f32_i32 (dist x cen) (iotaInDim S4x8192x512 32 2)
    (constant S_ .f32 0x7F800000#32) (constantI S_ 32 0#32) reducesTo_S4x8192x512_S4x8192_d2 h_S_ j).2
/-- The segment of each point, over all four sets. -/
def ids (a : IVec S4x8192 32) : IVec S32768x1 32 :=
  broadcastInDim S32768x1 ![0] bcast_S32768_S32768x1_0
    (shapeCast S32768 (addi a (broadcastInDim S4x8192 ![0, 1] bcast_S4x1_S4x8192_0_1
      (muli (broadcastInDim S4x1 ![0] bcast_S4_S4x1_0 (iotaInDim S4 32 0))
        (broadcastInDim S4x1 ![] bcast_S_S4x1 (constantI S_ 32 512#32))))) shapeCasts_S4x8192_S32768)
/-- The sum of each centroid's points. -/
def sumR (x : FVec F S4x8192x32 .f32) (a : IVec S4x8192 32) : FVec F S4x512x32 .f32 :=
  shapeCast S4x512x32 (Host.scatterAdd scatter_S2048x32_S32768x1_S32768x32_1_0_0_1
    (broadcastInDim S2048x32 ![] bcast_S_S2048x32 (constant S_ .f32 0x00000000#32)) (ids a)
    (shapeCast S32768x32 x shapeCasts_S4x8192x32_S32768x32)) shapeCasts_S2048x32_S4x512x32
/-- The number of each centroid's points. -/
def cntR (a : IVec S4x8192 32) : FVec F S4x512 .f32 :=
  shapeCast S4x512 (Host.scatterAdd scatter_S2048_S32768x1_S32768_n_0_0_1
    (broadcastInDim S2048 ![] bcast_S_S2048 (constant S_ .f32 0x00000000#32)) (ids a)
    (broadcastInDim S32768 ![] bcast_S_S32768 (constant S_ .f32 0x3F800000#32))) shapeCasts_S2048_S4x512
/-- The mean of each centroid's points. -/
def meanR (x : FVec F S4x8192x32 .f32) (a : IVec S4x8192 32) : FVec F S4x512x32 .f32 :=
  Host.divf (sumR x a) (broadcastInDim S4x512x32 ![0, 1, 2] bcast_S4x512x1_S4x512x32_0_1_2
    (broadcastInDim S4x512x1 ![0, 1] bcast_S4x512_S4x512x1_0_1
      (maximumf (broadcastInDim S4x512 ![] bcast_S_S4x512 (constant S_ .f32 0x3F800000#32)) (cntR a))))
/-- Where a centroid has no point. -/
def empR (a : IVec S4x8192 32) : IVec S4x512x32 1 :=
  broadcastInDim S4x512x32 ![0, 1, 2] bcast_S4x512x1_S4x512x32_0_1_2
    (broadcastInDim S4x512x1 ![0, 1] bcast_S4x512_S4x512x1_0_1
      (cmpf .oeq (cntR (F := F) a) (broadcastInDim S4x512 ![] bcast_S_S4x512 (constant S_ .f32 0x00000000#32))))
/-- The centroids after a round. -/
def upd (x : FVec F S4x8192x32 .f32) (a : IVec S4x8192 32) (d : IVec S4x512x1 32) : FVec F S4x512x32 .f32 :=
  select (empR (F := F) a) (pick x d) (meanR x a)
/-- The four rounds' draws. -/
def draw0 (r : IVec S4x512x4 32) : IVec S4x512x1 32 := extractStridedSlice S4x512x1 ![0, 0, 0] r slices_S4x512x4_S4x512x1_0_0_0
/-- The second round's draws. -/
def draw1 (r : IVec S4x512x4 32) : IVec S4x512x1 32 := extractStridedSlice S4x512x1 ![0, 0, 1] r slices_S4x512x4_S4x512x1_0_0_1
/-- The third round's draws. -/
def draw2 (r : IVec S4x512x4 32) : IVec S4x512x1 32 := extractStridedSlice S4x512x1 ![0, 0, 2] r slices_S4x512x4_S4x512x1_0_0_2
/-- The fourth round's draws. -/
def draw3 (r : IVec S4x512x4 32) : IVec S4x512x1 32 := extractStridedSlice S4x512x1 ![0, 0, 3] r slices_S4x512x4_S4x512x1_0_0_3
/-- The centroids a round leaves. -/
def rnd (x : FVec F S4x8192x32 .f32) (cen : FVec F S4x512x32 .f32) (d : IVec S4x512x1 32) : FVec F S4x512x32 .f32 :=
  upd x (asg x cen) d
/-- The centroids before the last round. -/
def cen3 (x : FVec F S4x8192x32 .f32) (c : IVec S4x512x1 32) (r : IVec S4x512x4 32) : FVec F S4x512x32 .f32 :=
  rnd x (rnd x (rnd x (pick x c) (draw0 r)) (draw1 r)) (draw2 r)

end Cert.ReferenceIdeal.Km

end
-- ==== Proof.RefOps.lean ====
/-
  The reference's run, over any float values: its operations in nine stretches, what each stretch leaves, and the two
  results at the end.
-/
module

public import proofs.«01_k».proof.Proof.RefSpec
public import Idealize.ShloMosaic.Lib.StableHlo.RunHlo
public import Idealize.ShloMosaic.Lib.StableHlo.RunRead

@[expose] public section

set_option maxRecDepth 65536

noncomputable section

namespace Cert.ReferenceIdeal.Km

open Cert.ReferenceIdeal Cert.ReferenceIdeal.Gen
open Idealize.ShloMosaic Idealize.ShloMosaic.TcCoe Idealize.ShloMosaic.StableHlo
open Idealize.SL.Sem

variable {F : FTy → Type} [FloatOps F]

/-- A stretch of the operations up to the first centroids. -/
def seg0 : List (HloOp τ sig (Elt F)) := [
  StableHlo.reshape main_arg1 main_v0 (rfl : (.i32 : EltTy) = .i32) shapeCasts_S4x512x1_S4x512,
  StableHlo.unary main_v0 main_v1 (broadcastInDim S4x512x1 ![0, 1] bcast_S4x512_S4x512x1_0_1 : (⟨S4x512, .i32⟩ : BufTy).Contents (Elt F) → (⟨S4x512x1, .i32⟩ : BufTy).Contents (Elt F)),
  StableHlo.unary main_v1 main_v2 (broadcastInDim S4x512x32 ![0, 1, 2] bcast_S4x512x1_S4x512x32_0_1_2 : (⟨S4x512x1, .i32⟩ : BufTy).Contents (Elt F) → (⟨S4x512x32, .i32⟩ : BufTy).Contents (Elt F)),
  StableHlo.TRef.nullary main_call0.c (constantI S_ 32 0#32),
  StableHlo.TRef.unary main_call0.c main_call0.v0 (broadcastInDim S4x512x32 ![] bcast_S_S4x512x32),
  StableHlo.TRef.binary (.of main_v2 : StableHlo.TRef sig ⟨S4x512x32, .i32⟩) main_call0.v0 main_call0.v1 (cmpi .slt),
  StableHlo.TRef.nullary main_call0.c_0 (constantI S_ 32 8192#32),
  StableHlo.TRef.unary main_call0.c_0 main_call0.v2 (broadcastInDim S4x512x32 ![] bcast_S_S4x512x32),
  StableHlo.TRef.binary (.of main_v2 : StableHlo.TRef sig ⟨S4x512x32, .i32⟩) main_call0.v2 main_call0.v3 addi,
  StableHlo.TRef.ternary main_call0.v1 main_call0.v3 (.of main_v2 : StableHlo.TRef sig ⟨S4x512x32, .i32⟩) main_call0.v4 select,
  StableHlo.TRef.reshape main_call0.v4 main_call0.v5 (rfl : (.i32 : EltTy) = .i32) shapeCasts_S4x512x32_S4x512x32x1,
  StableHlo.TRef.nullary main_call0.c_1 (constantI S1 32 8191#32),
  StableHlo.TRef.nullary main_call0.c_2 (constantI S_ 32 0#32),
  StableHlo.TRef.unary main_call0.c_2 main_call0.v6 (broadcastInDim S4x512x32x1 ![] bcast_S_S4x512x32x1),
  StableHlo.TRef.binary main_call0.v5 main_call0.v6 main_call0.v7 (cmpi .sge),
  StableHlo.TRef.unary main_call0.c_1 main_call0.v8 (broadcastInDim S1x1x1x1 ![3] bcast_S1_S1x1x1x1_3),
  StableHlo.TRef.unary main_call0.v8 main_call0.v9 (broadcastInDim S4x512x32x1 ![0, 1, 2, 3] bcast_S1x1x1x1_S4x512x32x1_0_1_2_3),
  StableHlo.TRef.binary main_call0.v5 main_call0.v9 main_call0.v10 (cmpi .sle),
  StableHlo.TRef.binary main_call0.v7 main_call0.v10 main_call0.v11 andi,
  StableHlo.TRef.nullary main_call0.c_3 (constantI S_ 1 1#1),
  StableHlo.TRef.binary main_call0.v11 main_call0.c_3 main_call0.v12 (fun x v => Host.reduce IntOp.andi x v reducesTo_S4x512x32x1_S4x512x32_d3 h_S_),
  StableHlo.TRef.binary (.of main_arg0 : StableHlo.TRef sig ⟨S4x8192x32, .f32⟩) main_call0.v5 main_call0.v13 (fun x i => Host.gather gather_S4x8192x32_S4x512x32x1_S4x512x32_n_1_02_02_1_3_111 x i),
  StableHlo.TRef.nullary main_call0.cst (constant S_ .f32 0x7FC00000#32),
  StableHlo.TRef.unary main_call0.cst main_call0.v14 (broadcastInDim S4x512x32 ![] bcast_S_S4x512x32),
  StableHlo.TRef.ternary main_call0.v12 main_call0.v13 main_call0.v14 main_call0.v15 select,
  StableHlo.nullary main_c (constantI S_ 32 0#32),
  StableHlo.unary main_c main_v4 (broadcastInDim S4x8192 ![] bcast_S_S4x8192 : (⟨S_, .i32⟩ : BufTy).Contents (Elt F) → (⟨S4x8192, .i32⟩ : BufTy).Contents (Elt F))]

/-- What it writes. -/
def seg0W : List (Ref sig .tc) := [main_v0, main_v1, main_v2, main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_cst, main_call0_v14, main_v3, main_c, main_v4]

/-- A stretch of the operations that assign the points. -/
def asg0 : List (HloOp τ sig (Elt F)) := [
  StableHlo.binary main_arg0 main_arg0 main_v5 (mulf : (⟨S4x8192x32, .f32⟩ : BufTy).Contents (Elt F) → (⟨S4x8192x32, .f32⟩ : BufTy).Contents (Elt F) → (⟨S4x8192x32, .f32⟩ : BufTy).Contents (Elt F)),
  StableHlo.nullary main_cst (constant S_ .f32 0x00000000#32),
  StableHlo.binary main_v5 main_cst main_v6 ((fun x v => Host.reduceAdd x v reducesTo_S4x8192x32_S4x8192_d2 h_S_) : (⟨S4x8192x32, .f32⟩ : BufTy).Contents (Elt F) → (⟨S_, .f32⟩ : BufTy).Contents (Elt F) → (⟨S4x8192, .f32⟩ : BufTy).Contents (Elt F)),
  StableHlo.unary main_v6 main_v7 (broadcastInDim S4x8192x1 ![0, 1] bcast_S4x8192_S4x8192x1_0_1 : (⟨S4x8192, .f32⟩ : BufTy).Contents (Elt F) → (⟨S4x8192x1, .f32⟩ : BufTy).Contents (Elt F)),
  StableHlo.binary main_v3 main_v3 main_v8 (mulf : (⟨S4x512x32, .f32⟩ : BufTy).Contents (Elt F) → (⟨S4x512x32, .f32⟩ : BufTy).Contents (Elt F) → (⟨S4x512x32, .f32⟩ : BufTy).Contents (Elt F)),
  StableHlo.nullary main_cst_0 (constant S_ .f32 0x00000000#32),
  StableHlo.binary main_v8 main_cst_0 main_v9 ((fun x v => Host.reduceAdd x v reducesTo_S4x512x32_S4x512_d2 h_S_) : (⟨S4x512x32, .f32⟩ : BufTy).Contents (Elt F) → (⟨S_, .f32⟩ : BufTy).Contents (Elt F) → (⟨S4x512, .f32⟩ : BufTy).Contents (Elt F)),
  StableHlo.unary main_v9 main_v10 (broadcastInDim S4x1x512 ![0, 2] bcast_S4x512_S4x1x512_0_2 : (⟨S4x512, .f32⟩ : BufTy).Contents (Elt F) → (⟨S4x1x512, .f32⟩ : BufTy).Contents (Elt F)),
  StableHlo.binary main_arg0 main_v3 main_v11 ((fun l r => Host.dotGeneral dot_S4x8192x32_S4x512x32_S4x8192x512_2_2_1_1_0_0 none l r) : (⟨S4x8192x32, .f32⟩ : BufTy).Contents (Elt F) → (⟨S4x512x32, .f32⟩ : BufTy).Contents (Elt F) → (⟨S4x8192x512, .f32⟩ : BufTy).Contents (Elt F)),
  StableHlo.unary main_v7 main_v12 (broadcastInDim S4x8192x512 ![0, 1, 2] bcast_S4x8192x1_S4x8192x512_0_1_2 : (⟨S4x8192x1, .f32⟩ : BufTy).Contents (Elt F) → (⟨S4x8192x512, .f32⟩ : BufTy).Contents (Elt F)),
  StableHlo.unary main_v10 main_v13 (broadcastInDim S4x8192x512 ![0, 1, 2] bcast_S4x1x512_S4x8192x512_0_1_2 : (⟨S4x1x512, .f32⟩ : BufTy).Contents (Elt F) → (⟨S4x8192x512, .f32⟩ : BufTy).Contents (Elt F)),
  StableHlo.binary main_v12 main_v13 main_v14 (addf : (⟨S4x8192x512, .f32⟩ : BufTy).Contents (Elt F) → (⟨S4x8192x512, .f32⟩ : BufTy).Contents (Elt F) → (⟨S4x8192x512, .f32⟩ : BufTy).Contents (Elt F)),
  StableHlo.nullary main_cst_1 (constant S_ .f32 0x40000000#32),
  StableHlo.unary main_cst_1 main_v15 (broadcastInDim S4x8192x512 ![] bcast_S_S4x8192x512 : (⟨S_, .f32⟩ : BufTy).Contents (Elt F) → (⟨S4x8192x512, .f32⟩ : BufTy).Contents (Elt F)),
  StableHlo.binary main_v15 main_v11 main_v16 (mulf : (⟨S4x8192x512, .f32⟩ : BufTy).Contents (Elt F) → (⟨S4x8192x512, .f32⟩ : BufTy).Contents (Elt F) → (⟨S4x8192x512, .f32⟩ : BufTy).Contents (Elt F)),
  StableHlo.binary main_v14 main_v16 main_v17 (subf : (⟨S4x8192x512, .f32⟩ : BufTy).Contents (Elt F) → (⟨S4x8192x512, .f32⟩ : BufTy).Contents (Elt F) → (⟨S4x8192x512, .f32⟩ : BufTy).Contents (Elt F)),
  StableHlo.TRef.nullary main_call1.v0 (iotaInDim S4x8192x512 32 2),
  StableHlo.TRef.nullary main_call1.cst (constant S_ .f32 0x7F800000#32),
  StableHlo.TRef.nullary main_call1.c (constantI S_ 32 0#32),
  StableHlo.TRef.quaternary (.of main_v17 : StableHlo.TRef sig ⟨S4x8192x512, .f32⟩) main_call1.v0 main_call1.cst main_call1.c main_call1.v1_0 (fun x y u v j => (Host.argReduce reducer_argmin_f32_i32 x y u v reducesTo_S4x8192x512_S4x8192_d2 h_S_ j).1),
  StableHlo.TRef.quaternary (.of main_v17 : StableHlo.TRef sig ⟨S4x8192x512, .f32⟩) main_call1.v0 main_call1.cst main_call1.c main_call1.v1_1 (fun x y u v j => (Host.argReduce reducer_argmin_f32_i32 x y u v reducesTo_S4x8192x512_S4x8192_d2 h_S_ j).2)]

/-- What it writes. -/
def asg0W : List (Ref sig .tc) := [main_v5, main_cst, main_v6, main_v7, main_v8, main_cst_0, main_v9, main_v10, main_v11, main_v12, main_v13, main_v14, main_cst_1, main_v15, main_v16, main_v17, main_call1_v0, main_call1_cst, main_call1_c, main_call1_v1_0, main_v18]

/-- A stretch of the operations that renew the centroids. -/
def upd0 : List (HloOp τ sig (Elt F)) := [
  StableHlo.unary main_arg2 main_v19 ((extractStridedSlice S4x512x1 ![0, 0, 0] · slices_S4x512x4_S4x512x1_0_0_0) : (⟨S4x512x4, .i32⟩ : BufTy).Contents (Elt F) → (⟨S4x512x1, .i32⟩ : BufTy).Contents (Elt F)),
  StableHlo.reshape main_v19 main_v20 (rfl : (.i32 : EltTy) = .i32) shapeCasts_S4x512x1_S4x512,
  StableHlo.nullary main_v21 (iotaInDim S4 32 0),
  StableHlo.unary main_v21 main_v22 (broadcastInDim S4x1 ![0] bcast_S4_S4x1_0 : (⟨S4, .i32⟩ : BufTy).Contents (Elt F) → (⟨S4x1, .i32⟩ : BufTy).Contents (Elt F)),
  StableHlo.nullary main_c_2 (constantI S_ 32 512#32),
  StableHlo.unary main_c_2 main_v23 (broadcastInDim S4x1 ![] bcast_S_S4x1 : (⟨S_, .i32⟩ : BufTy).Contents (Elt F) → (⟨S4x1, .i32⟩ : BufTy).Contents (Elt F)),
  StableHlo.binary main_v22 main_v23 main_v24 (muli : (⟨S4x1, .i32⟩ : BufTy).Contents (Elt F) → (⟨S4x1, .i32⟩ : BufTy).Contents (Elt F) → (⟨S4x1, .i32⟩ : BufTy).Contents (Elt F)),
  StableHlo.unary main_v24 main_v25 (broadcastInDim S4x8192 ![0, 1] bcast_S4x1_S4x8192_0_1 : (⟨S4x1, .i32⟩ : BufTy).Contents (Elt F) → (⟨S4x8192, .i32⟩ : BufTy).Contents (Elt F)),
  StableHlo.binary main_v18 main_v25 main_v26 (addi : (⟨S4x8192, .i32⟩ : BufTy).Contents (Elt F) → (⟨S4x8192, .i32⟩ : BufTy).Contents (Elt F) → (⟨S4x8192, .i32⟩ : BufTy).Contents (Elt F)),
  StableHlo.reshape main_v26 main_v27 (rfl : (.i32 : EltTy) = .i32) shapeCasts_S4x8192_S32768,
  StableHlo.reshape main_arg0 main_v28 (rfl : (.f32 : EltTy) = .f32) shapeCasts_S4x8192x32_S32768x32,
  StableHlo.nullary main_cst_3 (constant S_ .f32 0x00000000#32),
  StableHlo.unary main_cst_3 main_v29 (broadcastInDim S2048x32 ![] bcast_S_S2048x32 : (⟨S_, .f32⟩ : BufTy).Contents (Elt F) → (⟨S2048x32, .f32⟩ : BufTy).Contents (Elt F)),
  StableHlo.unary main_v27 main_v30 (broadcastInDim S32768x1 ![0] bcast_S32768_S32768x1_0 : (⟨S32768, .i32⟩ : BufTy).Contents (Elt F) → (⟨S32768x1, .i32⟩ : BufTy).Contents (Elt F)),
  StableHlo.ternary main_v29 main_v30 main_v28 main_v31 ((fun x i u => Host.scatterAdd scatter_S2048x32_S32768x1_S32768x32_1_0_0_1 x i u) : (⟨S2048x32, .f32⟩ : BufTy).Contents (Elt F) → (⟨S32768x1, .i32⟩ : BufTy).Contents (Elt F) → (⟨S32768x32, .f32⟩ : BufTy).Contents (Elt F) → (⟨S2048x32, .f32⟩ : BufTy).Contents (Elt F)),
  StableHlo.reshape main_v31 main_v32 (rfl : (.f32 : EltTy) = .f32) shapeCasts_S2048x32_S4x512x32,
  StableHlo.nullary main_cst_4 (constant S_ .f32 0x3F800000#32),
  StableHlo.unary main_cst_4 main_v33 (broadcastInDim S32768 ![] bcast_S_S32768 : (⟨S_, .f32⟩ : BufTy).Contents (Elt F) → (⟨S32768, .f32⟩ : BufTy).Contents (Elt F)),
  StableHlo.nullary main_cst_5 (constant S_ .f32 0x00000000#32),
  StableHlo.unary main_cst_5 main_v34 (broadcastInDim S2048 ![] bcast_S_S2048 : (⟨S_, .f32⟩ : BufTy).Contents (Elt F) → (⟨S2048, .f32⟩ : BufTy).Contents (Elt F)),
  StableHlo.unary main_v27 main_v35 (broadcastInDim S32768x1 ![0] bcast_S32768_S32768x1_0 : (⟨S32768, .i32⟩ : BufTy).Contents (Elt F) → (⟨S32768x1, .i32⟩ : BufTy).Contents (Elt F)),
  StableHlo.ternary main_v34 main_v35 main_v33 main_v36 ((fun x i u => Host.scatterAdd scatter_S2048_S32768x1_S32768_n_0_0_1 x i u) : (⟨S2048, .f32⟩ : BufTy).Contents (Elt F) → (⟨S32768x1, .i32⟩ : BufTy).Contents (Elt F) → (⟨S32768, .f32⟩ : BufTy).Contents (Elt F) → (⟨S2048, .f32⟩ : BufTy).Contents (Elt F)),
  StableHlo.reshape main_v36 main_v37 (rfl : (.f32 : EltTy) = .f32) shapeCasts_S2048_S4x512,
  StableHlo.nullary main_cst_6 (constant S_ .f32 0x3F800000#32),
  StableHlo.TRef.unary (.of main_cst_6 : StableHlo.TRef sig ⟨S_, .f32⟩) main_call2.v0 id,
  StableHlo.TRef.unary main_call2.v0 main_call2.v1 (broadcastInDim S4x512 ![] bcast_S_S4x512),
  StableHlo.TRef.binary main_call2.v1 (.of main_v37 : StableHlo.TRef sig ⟨S4x512, .f32⟩) main_call2.v2 maximumf,
  StableHlo.unary main_v38 main_v39 (broadcastInDim S4x512x1 ![0, 1] bcast_S4x512_S4x512x1_0_1 : (⟨S4x512, .f32⟩ : BufTy).Contents (Elt F) → (⟨S4x512x1, .f32⟩ : BufTy).Contents (Elt F)),
  StableHlo.unary main_v39 main_v40 (broadcastInDim S4x512x32 ![0, 1, 2] bcast_S4x512x1_S4x512x32_0_1_2 : (⟨S4x512x1, .f32⟩ : BufTy).Contents (Elt F) → (⟨S4x512x32, .f32⟩ : BufTy).Contents (Elt F)),
  StableHlo.binary main_v32 main_v40 main_v41 (Host.divf : (⟨S4x512x32, .f32⟩ : BufTy).Contents (Elt F) → (⟨S4x512x32, .f32⟩ : BufTy).Contents (Elt F) → (⟨S4x512x32, .f32⟩ : BufTy).Contents (Elt F)),
  StableHlo.nullary main_cst_7 (constant S_ .f32 0x00000000#32),
  StableHlo.unary main_cst_7 main_v42 (broadcastInDim S4x512 ![] bcast_S_S4x512 : (⟨S_, .f32⟩ : BufTy).Contents (Elt F) → (⟨S4x512, .f32⟩ : BufTy).Contents (Elt F)),
  StableHlo.binary main_v37 main_v42 main_v43 (cmpf .oeq : (⟨S4x512, .f32⟩ : BufTy).Contents (Elt F) → (⟨S4x512, .f32⟩ : BufTy).Contents (Elt F) → (⟨S4x512, .i1⟩ : BufTy).Contents (Elt F)),
  StableHlo.unary main_v43 main_v44 (broadcastInDim S4x512x1 ![0, 1] bcast_S4x512_S4x512x1_0_1 : (⟨S4x512, .i1⟩ : BufTy).Contents (Elt F) → (⟨S4x512x1, .i1⟩ : BufTy).Contents (Elt F)),
  StableHlo.unary main_v20 main_v45 (broadcastInDim S4x512x1 ![0, 1] bcast_S4x512_S4x512x1_0_1 : (⟨S4x512, .i32⟩ : BufTy).Contents (Elt F) → (⟨S4x512x1, .i32⟩ : BufTy).Contents (Elt F)),
  StableHlo.unary main_v45 main_v46 (broadcastInDim S4x512x32 ![0, 1, 2] bcast_S4x512x1_S4x512x32_0_1_2 : (⟨S4x512x1, .i32⟩ : BufTy).Contents (Elt F) → (⟨S4x512x32, .i32⟩ : BufTy).Contents (Elt F)),
  StableHlo.TRef.nullary main_call3.c (constantI S_ 32 0#32),
  StableHlo.TRef.unary main_call3.c main_call3.v0 (broadcastInDim S4x512x32 ![] bcast_S_S4x512x32),
  StableHlo.TRef.binary (.of main_v46 : StableHlo.TRef sig ⟨S4x512x32, .i32⟩) main_call3.v0 main_call3.v1 (cmpi .slt),
  StableHlo.TRef.nullary main_call3.c_0 (constantI S_ 32 8192#32),
  StableHlo.TRef.unary main_call3.c_0 main_call3.v2 (broadcastInDim S4x512x32 ![] bcast_S_S4x512x32),
  StableHlo.TRef.binary (.of main_v46 : StableHlo.TRef sig ⟨S4x512x32, .i32⟩) main_call3.v2 main_call3.v3 addi,
  StableHlo.TRef.ternary main_call3.v1 main_call3.v3 (.of main_v46 : StableHlo.TRef sig ⟨S4x512x32, .i32⟩) main_call3.v4 select,
  StableHlo.TRef.reshape main_call3.v4 main_call3.v5 (rfl : (.i32 : EltTy) = .i32) shapeCasts_S4x512x32_S4x512x32x1,
  StableHlo.TRef.nullary main_call3.c_1 (constantI S1 32 8191#32),
  StableHlo.TRef.nullary main_call3.c_2 (constantI S_ 32 0#32),
  StableHlo.TRef.unary main_call3.c_2 main_call3.v6 (broadcastInDim S4x512x32x1 ![] bcast_S_S4x512x32x1),
  StableHlo.TRef.binary main_call3.v5 main_call3.v6 main_call3.v7 (cmpi .sge),
  StableHlo.TRef.unary main_call3.c_1 main_call3.v8 (broadcastInDim S1x1x1x1 ![3] bcast_S1_S1x1x1x1_3),
  StableHlo.TRef.unary main_call3.v8 main_call3.v9 (broadcastInDim S4x512x32x1 ![0, 1, 2, 3] bcast_S1x1x1x1_S4x512x32x1_0_1_2_3),
  StableHlo.TRef.binary main_call3.v5 main_call3.v9 main_call3.v10 (cmpi .sle),
  StableHlo.TRef.binary main_call3.v7 main_call3.v10 main_call3.v11 andi,
  StableHlo.TRef.nullary main_call3.c_3 (constantI S_ 1 1#1),
  StableHlo.TRef.binary main_call3.v11 main_call3.c_3 main_call3.v12 (fun x v => Host.reduce IntOp.andi x v reducesTo_S4x512x32x1_S4x512x32_d3 h_S_),
  StableHlo.TRef.binary (.of main_arg0 : StableHlo.TRef sig ⟨S4x8192x32, .f32⟩) main_call3.v5 main_call3.v13 (fun x i => Host.gather gather_S4x8192x32_S4x512x32x1_S4x512x32_n_1_02_02_1_3_111 x i),
  StableHlo.TRef.nullary main_call3.cst (constant S_ .f32 0x7FC00000#32),
  StableHlo.TRef.unary main_call3.cst main_call3.v14 (broadcastInDim S4x512x32 ![] bcast_S_S4x512x32),
  StableHlo.TRef.ternary main_call3.v12 main_call3.v13 main_call3.v14 main_call3.v15 select,
  StableHlo.TRef.unary (.of main_v44 : StableHlo.TRef sig ⟨S4x512x1, .i1⟩) main_call4.v0 (broadcastInDim S4x512x32 ![0, 1, 2] bcast_S4x512x1_S4x512x32_0_1_2),
  StableHlo.TRef.ternary main_call4.v0 (.of main_v47 : StableHlo.TRef sig ⟨S4x512x32, .f32⟩) (.of main_v41 : StableHlo.TRef sig ⟨S4x512x32, .f32⟩) main_call4.v1 select]

/-- What it writes. -/
def upd0W : List (Ref sig .tc) := [main_v19, main_v20, main_v21, main_v22, main_c_2, main_v23, main_v24, main_v25, main_v26, main_v27, main_v28, main_cst_3, main_v29, main_v30, main_v31, main_v32, main_cst_4, main_v33, main_cst_5, main_v34, main_v35, main_v36, main_v37, main_cst_6, main_call2_v0, main_call2_v1, main_v38, main_v39, main_v40, main_v41, main_cst_7, main_v42, main_v43, main_v44, main_v45, main_v46, main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_cst, main_call3_v14, main_v47, main_call4_v0, main_v48]

/-- A stretch of the operations that assign the points. -/
def asg1_0 : List (HloOp τ sig (Elt F)) := [
  StableHlo.binary main_arg0 main_arg0 main_v49 (mulf : (⟨S4x8192x32, .f32⟩ : BufTy).Contents (Elt F) → (⟨S4x8192x32, .f32⟩ : BufTy).Contents (Elt F) → (⟨S4x8192x32, .f32⟩ : BufTy).Contents (Elt F))]

/-- What it writes. -/
def asg1_0W : List (Ref sig .tc) := [main_v49]

/-- A stretch of the operations that assign the points. -/
def asg1_1 : List (HloOp τ sig (Elt F)) := [
  StableHlo.nullary main_cst_8 (constant S_ .f32 0x00000000#32),
  StableHlo.binary main_v49 main_cst_8 main_v50 ((fun x v => Host.reduceAdd x v reducesTo_S4x8192x32_S4x8192_d2 h_S_) : (⟨S4x8192x32, .f32⟩ : BufTy).Contents (Elt F) → (⟨S_, .f32⟩ : BufTy).Contents (Elt F) → (⟨S4x8192, .f32⟩ : BufTy).Contents (Elt F)),
  StableHlo.unary main_v50 main_v51 (broadcastInDim S4x8192x1 ![0, 1] bcast_S4x8192_S4x8192x1_0_1 : (⟨S4x8192, .f32⟩ : BufTy).Contents (Elt F) → (⟨S4x8192x1, .f32⟩ : BufTy).Contents (Elt F)),
  StableHlo.binary main_v48 main_v48 main_v52 (mulf : (⟨S4x512x32, .f32⟩ : BufTy).Contents (Elt F) → (⟨S4x512x32, .f32⟩ : BufTy).Contents (Elt F) → (⟨S4x512x32, .f32⟩ : BufTy).Contents (Elt F)),
  StableHlo.nullary main_cst_9 (constant S_ .f32 0x00000000#32),
  StableHlo.binary main_v52 main_cst_9 main_v53 ((fun x v => Host.reduceAdd x v reducesTo_S4x512x32_S4x512_d2 h_S_) : (⟨S4x512x32, .f32⟩ : BufTy).Contents (Elt F) → (⟨S_, .f32⟩ : BufTy).Contents (Elt F) → (⟨S4x512, .f32⟩ : BufTy).Contents (Elt F)),
  StableHlo.unary main_v53 main_v54 (broadcastInDim S4x1x512 ![0, 2] bcast_S4x512_S4x1x512_0_2 : (⟨S4x512, .f32⟩ : BufTy).Contents (Elt F) → (⟨S4x1x512, .f32⟩ : BufTy).Contents (Elt F)),
  StableHlo.binary main_arg0 main_v48 main_v55 ((fun l r => Host.dotGeneral dot_S4x8192x32_S4x512x32_S4x8192x512_2_2_1_1_0_0 none l r) : (⟨S4x8192x32, .f32⟩ : BufTy).Contents (Elt F) → (⟨S4x512x32, .f32⟩ : BufTy).Contents (Elt F) → (⟨S4x8192x512, .f32⟩ : BufTy).Contents (Elt F)),
  StableHlo.unary main_v51 main_v56 (broadcastInDim S4x8192x512 ![0, 1, 2] bcast_S4x8192x1_S4x8192x512_0_1_2 : (⟨S4x8192x1, .f32⟩ : BufTy).Contents (Elt F) → (⟨S4x8192x512, .f32⟩ : BufTy).Contents (Elt F)),
  StableHlo.unary main_v54 main_v57 (broadcastInDim S4x8192x512 ![0, 1, 2] bcast_S4x1x512_S4x8192x512_0_1_2 : (⟨S4x1x512, .f32⟩ : BufTy).Contents (Elt F) → (⟨S4x8192x512, .f32⟩ : BufTy).Contents (Elt F)),
  StableHlo.binary main_v56 main_v57 main_v58 (addf : (⟨S4x8192x512, .f32⟩ : BufTy).Contents (Elt F) → (⟨S4x8192x512, .f32⟩ : BufTy).Contents (Elt F) → (⟨S4x8192x512, .f32⟩ : BufTy).Contents (Elt F)),
  StableHlo.nullary main_cst_10 (constant S_ .f32 0x40000000#32),
  StableHlo.unary main_cst_10 main_v59 (broadcastInDim S4x8192x512 ![] bcast_S_S4x8192x512 : (⟨S_, .f32⟩ : BufTy).Contents (Elt F) → (⟨S4x8192x512, .f32⟩ : BufTy).Contents (Elt F)),
  StableHlo.binary main_v59 main_v55 main_v60 (mulf : (⟨S4x8192x512, .f32⟩ : BufTy).Contents (Elt F) → (⟨S4x8192x512, .f32⟩ : BufTy).Contents (Elt F) → (⟨S4x8192x512, .f32⟩ : BufTy).Contents (Elt F)),
  StableHlo.binary main_v58 main_v60 main_v61 (subf : (⟨S4x8192x512, .f32⟩ : BufTy).Contents (Elt F) → (⟨S4x8192x512, .f32⟩ : BufTy).Contents (Elt F) → (⟨S4x8192x512, .f32⟩ : BufTy).Contents (Elt F)),
  StableHlo.TRef.nullary main_call5.v0 (iotaInDim S4x8192x512 32 2),
  StableHlo.TRef.nullary main_call5.cst (constant S_ .f32 0x7F800000#32),
  StableHlo.TRef.nullary main_call5.c (constantI S_ 32 0#32),
  StableHlo.TRef.quaternary (.of main_v61 : StableHlo.TRef sig ⟨S4x8192x512, .f32⟩) main_call5.v0 main_call5.cst main_call5.c main_call5.v1_0 (fun x y u v j => (Host.argReduce reducer_argmin_f32_i32 x y u v reducesTo_S4x8192x512_S4x8192_d2 h_S_ j).1),
  StableHlo.TRef.quaternary (.of main_v61 : StableHlo.TRef sig ⟨S4x8192x512, .f32⟩) main_call5.v0 main_call5.cst main_call5.c main_call5.v1_1 (fun x y u v j => (Host.argReduce reducer_argmin_f32_i32 x y u v reducesTo_S4x8192x512_S4x8192_d2 h_S_ j).2)]

/-- What it writes. -/
def asg1_1W : List (Ref sig .tc) := [main_cst_8, main_v50, main_v51, main_v52, main_cst_9, main_v53, main_v54, main_v55, main_v56, main_v57, main_v58, main_cst_10, main_v59, main_v60, main_v61, main_call5_v0, main_call5_cst, main_call5_c, main_call5_v1_0, main_v62]

/-- The stretch whole. -/
def asg1 : List (HloOp τ sig (Elt F)) := asg1_0 ++ asg1_1

/-- What it writes. -/
def asg1W : List (Ref sig .tc) := asg1_0W ++ asg1_1W

/-- A stretch of the operations that renew the centroids. -/
def upd1 : List (HloOp τ sig (Elt F)) := [
  StableHlo.unary main_arg2 main_v63 ((extractStridedSlice S4x512x1 ![0, 0, 1] · slices_S4x512x4_S4x512x1_0_0_1) : (⟨S4x512x4, .i32⟩ : BufTy).Contents (Elt F) → (⟨S4x512x1, .i32⟩ : BufTy).Contents (Elt F)),
  StableHlo.reshape main_v63 main_v64 (rfl : (.i32 : EltTy) = .i32) shapeCasts_S4x512x1_S4x512,
  StableHlo.nullary main_v65 (iotaInDim S4 32 0),
  StableHlo.unary main_v65 main_v66 (broadcastInDim S4x1 ![0] bcast_S4_S4x1_0 : (⟨S4, .i32⟩ : BufTy).Contents (Elt F) → (⟨S4x1, .i32⟩ : BufTy).Contents (Elt F)),
  StableHlo.nullary main_c_11 (constantI S_ 32 512#32),
  StableHlo.unary main_c_11 main_v67 (broadcastInDim S4x1 ![] bcast_S_S4x1 : (⟨S_, .i32⟩ : BufTy).Contents (Elt F) → (⟨S4x1, .i32⟩ : BufTy).Contents (Elt F)),
  StableHlo.binary main_v66 main_v67 main_v68 (muli : (⟨S4x1, .i32⟩ : BufTy).Contents (Elt F) → (⟨S4x1, .i32⟩ : BufTy).Contents (Elt F) → (⟨S4x1, .i32⟩ : BufTy).Contents (Elt F)),
  StableHlo.unary main_v68 main_v69 (broadcastInDim S4x8192 ![0, 1] bcast_S4x1_S4x8192_0_1 : (⟨S4x1, .i32⟩ : BufTy).Contents (Elt F) → (⟨S4x8192, .i32⟩ : BufTy).Contents (Elt F)),
  StableHlo.binary main_v62 main_v69 main_v70 (addi : (⟨S4x8192, .i32⟩ : BufTy).Contents (Elt F) → (⟨S4x8192, .i32⟩ : BufTy).Contents (Elt F) → (⟨S4x8192, .i32⟩ : BufTy).Contents (Elt F)),
  StableHlo.reshape main_v70 main_v71 (rfl : (.i32 : EltTy) = .i32) shapeCasts_S4x8192_S32768,
  StableHlo.reshape main_arg0 main_v72 (rfl : (.f32 : EltTy) = .f32) shapeCasts_S4x8192x32_S32768x32,
  StableHlo.nullary main_cst_12 (constant S_ .f32 0x00000000#32),
  StableHlo.unary main_cst_12 main_v73 (broadcastInDim S2048x32 ![] bcast_S_S2048x32 : (⟨S_, .f32⟩ : BufTy).Contents (Elt F) → (⟨S2048x32, .f32⟩ : BufTy).Contents (Elt F)),
  StableHlo.unary main_v71 main_v74 (broadcastInDim S32768x1 ![0] bcast_S32768_S32768x1_0 : (⟨S32768, .i32⟩ : BufTy).Contents (Elt F) → (⟨S32768x1, .i32⟩ : BufTy).Contents (Elt F)),
  StableHlo.ternary main_v73 main_v74 main_v72 main_v75 ((fun x i u => Host.scatterAdd scatter_S2048x32_S32768x1_S32768x32_1_0_0_1 x i u) : (⟨S2048x32, .f32⟩ : BufTy).Contents (Elt F) → (⟨S32768x1, .i32⟩ : BufTy).Contents (Elt F) → (⟨S32768x32, .f32⟩ : BufTy).Contents (Elt F) → (⟨S2048x32, .f32⟩ : BufTy).Contents (Elt F)),
  StableHlo.reshape main_v75 main_v76 (rfl : (.f32 : EltTy) = .f32) shapeCasts_S2048x32_S4x512x32,
  StableHlo.nullary main_cst_13 (constant S_ .f32 0x3F800000#32),
  StableHlo.unary main_cst_13 main_v77 (broadcastInDim S32768 ![] bcast_S_S32768 : (⟨S_, .f32⟩ : BufTy).Contents (Elt F) → (⟨S32768, .f32⟩ : BufTy).Contents (Elt F)),
  StableHlo.nullary main_cst_14 (constant S_ .f32 0x00000000#32),
  StableHlo.unary main_cst_14 main_v78 (broadcastInDim S2048 ![] bcast_S_S2048 : (⟨S_, .f32⟩ : BufTy).Contents (Elt F) → (⟨S2048, .f32⟩ : BufTy).Contents (Elt F)),
  StableHlo.unary main_v71 main_v79 (broadcastInDim S32768x1 ![0] bcast_S32768_S32768x1_0 : (⟨S32768, .i32⟩ : BufTy).Contents (Elt F) → (⟨S32768x1, .i32⟩ : BufTy).Contents (Elt F)),
  StableHlo.ternary main_v78 main_v79 main_v77 main_v80 ((fun x i u => Host.scatterAdd scatter_S2048_S32768x1_S32768_n_0_0_1 x i u) : (⟨S2048, .f32⟩ : BufTy).Contents (Elt F) → (⟨S32768x1, .i32⟩ : BufTy).Contents (Elt F) → (⟨S32768, .f32⟩ : BufTy).Contents (Elt F) → (⟨S2048, .f32⟩ : BufTy).Contents (Elt F)),
  StableHlo.reshape main_v80 main_v81 (rfl : (.f32 : EltTy) = .f32) shapeCasts_S2048_S4x512,
  StableHlo.nullary main_cst_15 (constant S_ .f32 0x3F800000#32),
  StableHlo.TRef.unary (.of main_cst_15 : StableHlo.TRef sig ⟨S_, .f32⟩) main_call6.v0 id,
  StableHlo.TRef.unary main_call6.v0 main_call6.v1 (broadcastInDim S4x512 ![] bcast_S_S4x512),
  StableHlo.TRef.binary main_call6.v1 (.of main_v81 : StableHlo.TRef sig ⟨S4x512, .f32⟩) main_call6.v2 maximumf,
  StableHlo.unary main_v82 main_v83 (broadcastInDim S4x512x1 ![0, 1] bcast_S4x512_S4x512x1_0_1 : (⟨S4x512, .f32⟩ : BufTy).Contents (Elt F) → (⟨S4x512x1, .f32⟩ : BufTy).Contents (Elt F)),
  StableHlo.unary main_v83 main_v84 (broadcastInDim S4x512x32 ![0, 1, 2] bcast_S4x512x1_S4x512x32_0_1_2 : (⟨S4x512x1, .f32⟩ : BufTy).Contents (Elt F) → (⟨S4x512x32, .f32⟩ : BufTy).Contents (Elt F)),
  StableHlo.binary main_v76 main_v84 main_v85 (Host.divf : (⟨S4x512x32, .f32⟩ : BufTy).Contents (Elt F) → (⟨S4x512x32, .f32⟩ : BufTy).Contents (Elt F) → (⟨S4x512x32, .f32⟩ : BufTy).Contents (Elt F)),
  StableHlo.nullary main_cst_16 (constant S_ .f32 0x00000000#32),
  StableHlo.unary main_cst_16 main_v86 (broadcastInDim S4x512 ![] bcast_S_S4x512 : (⟨S_, .f32⟩ : BufTy).Contents (Elt F) → (⟨S4x512, .f32⟩ : BufTy).Contents (Elt F)),
  StableHlo.binary main_v81 main_v86 main_v87 (cmpf .oeq : (⟨S4x512, .f32⟩ : BufTy).Contents (Elt F) → (⟨S4x512, .f32⟩ : BufTy).Contents (Elt F) → (⟨S4x512, .i1⟩ : BufTy).Contents (Elt F)),
  StableHlo.unary main_v87 main_v88 (broadcastInDim S4x512x1 ![0, 1] bcast_S4x512_S4x512x1_0_1 : (⟨S4x512, .i1⟩ : BufTy).Contents (Elt F) → (⟨S4x512x1, .i1⟩ : BufTy).Contents (Elt F)),
  StableHlo.unary main_v64 main_v89 (broadcastInDim S4x512x1 ![0, 1] bcast_S4x512_S4x512x1_0_1 : (⟨S4x512, .i32⟩ : BufTy).Contents (Elt F) → (⟨S4x512x1, .i32⟩ : BufTy).Contents (Elt F)),
  StableHlo.unary main_v89 main_v90 (broadcastInDim S4x512x32 ![0, 1, 2] bcast_S4x512x1_S4x512x32_0_1_2 : (⟨S4x512x1, .i32⟩ : BufTy).Contents (Elt F) → (⟨S4x512x32, .i32⟩ : BufTy).Contents (Elt F)),
  StableHlo.TRef.nullary main_call7.c (constantI S_ 32 0#32),
  StableHlo.TRef.unary main_call7.c main_call7.v0 (broadcastInDim S4x512x32 ![] bcast_S_S4x512x32),
  StableHlo.TRef.binary (.of main_v90 : StableHlo.TRef sig ⟨S4x512x32, .i32⟩) main_call7.v0 main_call7.v1 (cmpi .slt),
  StableHlo.TRef.nullary main_call7.c_0 (constantI S_ 32 8192#32),
  StableHlo.TRef.unary main_call7.c_0 main_call7.v2 (broadcastInDim S4x512x32 ![] bcast_S_S4x512x32),
  StableHlo.TRef.binary (.of main_v90 : StableHlo.TRef sig ⟨S4x512x32, .i32⟩) main_call7.v2 main_call7.v3 addi,
  StableHlo.TRef.ternary main_call7.v1 main_call7.v3 (.of main_v90 : StableHlo.TRef sig ⟨S4x512x32, .i32⟩) main_call7.v4 select,
  StableHlo.TRef.reshape main_call7.v4 main_call7.v5 (rfl : (.i32 : EltTy) = .i32) shapeCasts_S4x512x32_S4x512x32x1,
  StableHlo.TRef.nullary main_call7.c_1 (constantI S1 32 8191#32),
  StableHlo.TRef.nullary main_call7.c_2 (constantI S_ 32 0#32),
  StableHlo.TRef.unary main_call7.c_2 main_call7.v6 (broadcastInDim S4x512x32x1 ![] bcast_S_S4x512x32x1),
  StableHlo.TRef.binary main_call7.v5 main_call7.v6 main_call7.v7 (cmpi .sge),
  StableHlo.TRef.unary main_call7.c_1 main_call7.v8 (broadcastInDim S1x1x1x1 ![3] bcast_S1_S1x1x1x1_3),
  StableHlo.TRef.unary main_call7.v8 main_call7.v9 (broadcastInDim S4x512x32x1 ![0, 1, 2, 3] bcast_S1x1x1x1_S4x512x32x1_0_1_2_3),
  StableHlo.TRef.binary main_call7.v5 main_call7.v9 main_call7.v10 (cmpi .sle),
  StableHlo.TRef.binary main_call7.v7 main_call7.v10 main_call7.v11 andi,
  StableHlo.TRef.nullary main_call7.c_3 (constantI S_ 1 1#1),
  StableHlo.TRef.binary main_call7.v11 main_call7.c_3 main_call7.v12 (fun x v => Host.reduce IntOp.andi x v reducesTo_S4x512x32x1_S4x512x32_d3 h_S_),
  StableHlo.TRef.binary (.of main_arg0 : StableHlo.TRef sig ⟨S4x8192x32, .f32⟩) main_call7.v5 main_call7.v13 (fun x i => Host.gather gather_S4x8192x32_S4x512x32x1_S4x512x32_n_1_02_02_1_3_111 x i),
  StableHlo.TRef.nullary main_call7.cst (constant S_ .f32 0x7FC00000#32),
  StableHlo.TRef.unary main_call7.cst main_call7.v14 (broadcastInDim S4x512x32 ![] bcast_S_S4x512x32),
  StableHlo.TRef.ternary main_call7.v12 main_call7.v13 main_call7.v14 main_call7.v15 select,
  StableHlo.TRef.unary (.of main_v88 : StableHlo.TRef sig ⟨S4x512x1, .i1⟩) main_call8.v0 (broadcastInDim S4x512x32 ![0, 1, 2] bcast_S4x512x1_S4x512x32_0_1_2),
  StableHlo.TRef.ternary main_call8.v0 (.of main_v91 : StableHlo.TRef sig ⟨S4x512x32, .f32⟩) (.of main_v85 : StableHlo.TRef sig ⟨S4x512x32, .f32⟩) main_call8.v1 select]

/-- What it writes. -/
def upd1W : List (Ref sig .tc) := [main_v63, main_v64, main_v65, main_v66, main_c_11, main_v67, main_v68, main_v69, main_v70, main_v71, main_v72, main_cst_12, main_v73, main_v74, main_v75, main_v76, main_cst_13, main_v77, main_cst_14, main_v78, main_v79, main_v80, main_v81, main_cst_15, main_call6_v0, main_call6_v1, main_v82, main_v83, main_v84, main_v85, main_cst_16, main_v86, main_v87, main_v88, main_v89, main_v90, main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_cst, main_call7_v14, main_v91, main_call8_v0, main_v92]

/-- A stretch of the operations that assign the points. -/
def asg2_0 : List (HloOp τ sig (Elt F)) := [
  StableHlo.binary main_arg0 main_arg0 main_v93 (mulf : (⟨S4x8192x32, .f32⟩ : BufTy).Contents (Elt F) → (⟨S4x8192x32, .f32⟩ : BufTy).Contents (Elt F) → (⟨S4x8192x32, .f32⟩ : BufTy).Contents (Elt F)),
  StableHlo.nullary main_cst_17 (constant S_ .f32 0x00000000#32),
  StableHlo.binary main_v93 main_cst_17 main_v94 ((fun x v => Host.reduceAdd x v reducesTo_S4x8192x32_S4x8192_d2 h_S_) : (⟨S4x8192x32, .f32⟩ : BufTy).Contents (Elt F) → (⟨S_, .f32⟩ : BufTy).Contents (Elt F) → (⟨S4x8192, .f32⟩ : BufTy).Contents (Elt F)),
  StableHlo.unary main_v94 main_v95 (broadcastInDim S4x8192x1 ![0, 1] bcast_S4x8192_S4x8192x1_0_1 : (⟨S4x8192, .f32⟩ : BufTy).Contents (Elt F) → (⟨S4x8192x1, .f32⟩ : BufTy).Contents (Elt F)),
  StableHlo.binary main_v92 main_v92 main_v96 (mulf : (⟨S4x512x32, .f32⟩ : BufTy).Contents (Elt F) → (⟨S4x512x32, .f32⟩ : BufTy).Contents (Elt F) → (⟨S4x512x32, .f32⟩ : BufTy).Contents (Elt F)),
  StableHlo.nullary main_cst_18 (constant S_ .f32 0x00000000#32),
  StableHlo.binary main_v96 main_cst_18 main_v97 ((fun x v => Host.reduceAdd x v reducesTo_S4x512x32_S4x512_d2 h_S_) : (⟨S4x512x32, .f32⟩ : BufTy).Contents (Elt F) → (⟨S_, .f32⟩ : BufTy).Contents (Elt F) → (⟨S4x512, .f32⟩ : BufTy).Contents (Elt F)),
  StableHlo.unary main_v97 main_v98 (broadcastInDim S4x1x512 ![0, 2] bcast_S4x512_S4x1x512_0_2 : (⟨S4x512, .f32⟩ : BufTy).Contents (Elt F) → (⟨S4x1x512, .f32⟩ : BufTy).Contents (Elt F))]

/-- What it writes. -/
def asg2_0W : List (Ref sig .tc) := [main_v93, main_cst_17, main_v94, main_v95, main_v96, main_cst_18, main_v97, main_v98]

/-- A stretch of the operations that assign the points. -/
def asg2_1 : List (HloOp τ sig (Elt F)) := [
  StableHlo.binary main_arg0 main_v92 main_v99 ((fun l r => Host.dotGeneral dot_S4x8192x32_S4x512x32_S4x8192x512_2_2_1_1_0_0 none l r) : (⟨S4x8192x32, .f32⟩ : BufTy).Contents (Elt F) → (⟨S4x512x32, .f32⟩ : BufTy).Contents (Elt F) → (⟨S4x8192x512, .f32⟩ : BufTy).Contents (Elt F)),
  StableHlo.unary main_v95 main_v100 (broadcastInDim S4x8192x512 ![0, 1, 2] bcast_S4x8192x1_S4x8192x512_0_1_2 : (⟨S4x8192x1, .f32⟩ : BufTy).Contents (Elt F) → (⟨S4x8192x512, .f32⟩ : BufTy).Contents (Elt F)),
  StableHlo.unary main_v98 main_v101 (broadcastInDim S4x8192x512 ![0, 1, 2] bcast_S4x1x512_S4x8192x512_0_1_2 : (⟨S4x1x512, .f32⟩ : BufTy).Contents (Elt F) → (⟨S4x8192x512, .f32⟩ : BufTy).Contents (Elt F)),
  StableHlo.binary main_v100 main_v101 main_v102 (addf : (⟨S4x8192x512, .f32⟩ : BufTy).Contents (Elt F) → (⟨S4x8192x512, .f32⟩ : BufTy).Contents (Elt F) → (⟨S4x8192x512, .f32⟩ : BufTy).Contents (Elt F)),
  StableHlo.nullary main_cst_19 (constant S_ .f32 0x40000000#32),
  StableHlo.unary main_cst_19 main_v103 (broadcastInDim S4x8192x512 ![] bcast_S_S4x8192x512 : (⟨S_, .f32⟩ : BufTy).Contents (Elt F) → (⟨S4x8192x512, .f32⟩ : BufTy).Contents (Elt F)),
  StableHlo.binary main_v103 main_v99 main_v104 (mulf : (⟨S4x8192x512, .f32⟩ : BufTy).Contents (Elt F) → (⟨S4x8192x512, .f32⟩ : BufTy).Contents (Elt F) → (⟨S4x8192x512, .f32⟩ : BufTy).Contents (Elt F)),
  StableHlo.binary main_v102 main_v104 main_v105 (subf : (⟨S4x8192x512, .f32⟩ : BufTy).Contents (Elt F) → (⟨S4x8192x512, .f32⟩ : BufTy).Contents (Elt F) → (⟨S4x8192x512, .f32⟩ : BufTy).Contents (Elt F)),
  StableHlo.TRef.nullary main_call9.v0 (iotaInDim S4x8192x512 32 2),
  StableHlo.TRef.nullary main_call9.cst (constant S_ .f32 0x7F800000#32),
  StableHlo.TRef.nullary main_call9.c (constantI S_ 32 0#32),
  StableHlo.TRef.quaternary (.of main_v105 : StableHlo.TRef sig ⟨S4x8192x512, .f32⟩) main_call9.v0 main_call9.cst main_call9.c main_call9.v1_0 (fun x y u v j => (Host.argReduce reducer_argmin_f32_i32 x y u v reducesTo_S4x8192x512_S4x8192_d2 h_S_ j).1),
  StableHlo.TRef.quaternary (.of main_v105 : StableHlo.TRef sig ⟨S4x8192x512, .f32⟩) main_call9.v0 main_call9.cst main_call9.c main_call9.v1_1 (fun x y u v j => (Host.argReduce reducer_argmin_f32_i32 x y u v reducesTo_S4x8192x512_S4x8192_d2 h_S_ j).2)]

/-- What it writes. -/
def asg2_1W : List (Ref sig .tc) := [main_v99, main_v100, main_v101, main_v102, main_cst_19, main_v103, main_v104, main_v105, main_call9_v0, main_call9_cst, main_call9_c, main_call9_v1_0, main_v106]

/-- The stretch whole. -/
def asg2 : List (HloOp τ sig (Elt F)) := asg2_0 ++ asg2_1

/-- What it writes. -/
def asg2W : List (Ref sig .tc) := asg2_0W ++ asg2_1W

/-- A stretch of the operations that renew the centroids. -/
def upd2 : List (HloOp τ sig (Elt F)) := [
  StableHlo.unary main_arg2 main_v107 ((extractStridedSlice S4x512x1 ![0, 0, 2] · slices_S4x512x4_S4x512x1_0_0_2) : (⟨S4x512x4, .i32⟩ : BufTy).Contents (Elt F) → (⟨S4x512x1, .i32⟩ : BufTy).Contents (Elt F)),
  StableHlo.reshape main_v107 main_v108 (rfl : (.i32 : EltTy) = .i32) shapeCasts_S4x512x1_S4x512,
  StableHlo.nullary main_v109 (iotaInDim S4 32 0),
  StableHlo.unary main_v109 main_v110 (broadcastInDim S4x1 ![0] bcast_S4_S4x1_0 : (⟨S4, .i32⟩ : BufTy).Contents (Elt F) → (⟨S4x1, .i32⟩ : BufTy).Contents (Elt F)),
  StableHlo.nullary main_c_20 (constantI S_ 32 512#32),
  StableHlo.unary main_c_20 main_v111 (broadcastInDim S4x1 ![] bcast_S_S4x1 : (⟨S_, .i32⟩ : BufTy).Contents (Elt F) → (⟨S4x1, .i32⟩ : BufTy).Contents (Elt F)),
  StableHlo.binary main_v110 main_v111 main_v112 (muli : (⟨S4x1, .i32⟩ : BufTy).Contents (Elt F) → (⟨S4x1, .i32⟩ : BufTy).Contents (Elt F) → (⟨S4x1, .i32⟩ : BufTy).Contents (Elt F)),
  StableHlo.unary main_v112 main_v113 (broadcastInDim S4x8192 ![0, 1] bcast_S4x1_S4x8192_0_1 : (⟨S4x1, .i32⟩ : BufTy).Contents (Elt F) → (⟨S4x8192, .i32⟩ : BufTy).Contents (Elt F)),
  StableHlo.binary main_v106 main_v113 main_v114 (addi : (⟨S4x8192, .i32⟩ : BufTy).Contents (Elt F) → (⟨S4x8192, .i32⟩ : BufTy).Contents (Elt F) → (⟨S4x8192, .i32⟩ : BufTy).Contents (Elt F)),
  StableHlo.reshape main_v114 main_v115 (rfl : (.i32 : EltTy) = .i32) shapeCasts_S4x8192_S32768,
  StableHlo.reshape main_arg0 main_v116 (rfl : (.f32 : EltTy) = .f32) shapeCasts_S4x8192x32_S32768x32,
  StableHlo.nullary main_cst_21 (constant S_ .f32 0x00000000#32),
  StableHlo.unary main_cst_21 main_v117 (broadcastInDim S2048x32 ![] bcast_S_S2048x32 : (⟨S_, .f32⟩ : BufTy).Contents (Elt F) → (⟨S2048x32, .f32⟩ : BufTy).Contents (Elt F)),
  StableHlo.unary main_v115 main_v118 (broadcastInDim S32768x1 ![0] bcast_S32768_S32768x1_0 : (⟨S32768, .i32⟩ : BufTy).Contents (Elt F) → (⟨S32768x1, .i32⟩ : BufTy).Contents (Elt F)),
  StableHlo.ternary main_v117 main_v118 main_v116 main_v119 ((fun x i u => Host.scatterAdd scatter_S2048x32_S32768x1_S32768x32_1_0_0_1 x i u) : (⟨S2048x32, .f32⟩ : BufTy).Contents (Elt F) → (⟨S32768x1, .i32⟩ : BufTy).Contents (Elt F) → (⟨S32768x32, .f32⟩ : BufTy).Contents (Elt F) → (⟨S2048x32, .f32⟩ : BufTy).Contents (Elt F)),
  StableHlo.reshape main_v119 main_v120 (rfl : (.f32 : EltTy) = .f32) shapeCasts_S2048x32_S4x512x32,
  StableHlo.nullary main_cst_22 (constant S_ .f32 0x3F800000#32),
  StableHlo.unary main_cst_22 main_v121 (broadcastInDim S32768 ![] bcast_S_S32768 : (⟨S_, .f32⟩ : BufTy).Contents (Elt F) → (⟨S32768, .f32⟩ : BufTy).Contents (Elt F)),
  StableHlo.nullary main_cst_23 (constant S_ .f32 0x00000000#32),
  StableHlo.unary main_cst_23 main_v122 (broadcastInDim S2048 ![] bcast_S_S2048 : (⟨S_, .f32⟩ : BufTy).Contents (Elt F) → (⟨S2048, .f32⟩ : BufTy).Contents (Elt F)),
  StableHlo.unary main_v115 main_v123 (broadcastInDim S32768x1 ![0] bcast_S32768_S32768x1_0 : (⟨S32768, .i32⟩ : BufTy).Contents (Elt F) → (⟨S32768x1, .i32⟩ : BufTy).Contents (Elt F)),
  StableHlo.ternary main_v122 main_v123 main_v121 main_v124 ((fun x i u => Host.scatterAdd scatter_S2048_S32768x1_S32768_n_0_0_1 x i u) : (⟨S2048, .f32⟩ : BufTy).Contents (Elt F) → (⟨S32768x1, .i32⟩ : BufTy).Contents (Elt F) → (⟨S32768, .f32⟩ : BufTy).Contents (Elt F) → (⟨S2048, .f32⟩ : BufTy).Contents (Elt F)),
  StableHlo.reshape main_v124 main_v125 (rfl : (.f32 : EltTy) = .f32) shapeCasts_S2048_S4x512,
  StableHlo.nullary main_cst_24 (constant S_ .f32 0x3F800000#32),
  StableHlo.TRef.unary (.of main_cst_24 : StableHlo.TRef sig ⟨S_, .f32⟩) main_call10.v0 id,
  StableHlo.TRef.unary main_call10.v0 main_call10.v1 (broadcastInDim S4x512 ![] bcast_S_S4x512),
  StableHlo.TRef.binary main_call10.v1 (.of main_v125 : StableHlo.TRef sig ⟨S4x512, .f32⟩) main_call10.v2 maximumf,
  StableHlo.unary main_v126 main_v127 (broadcastInDim S4x512x1 ![0, 1] bcast_S4x512_S4x512x1_0_1 : (⟨S4x512, .f32⟩ : BufTy).Contents (Elt F) → (⟨S4x512x1, .f32⟩ : BufTy).Contents (Elt F)),
  StableHlo.unary main_v127 main_v128 (broadcastInDim S4x512x32 ![0, 1, 2] bcast_S4x512x1_S4x512x32_0_1_2 : (⟨S4x512x1, .f32⟩ : BufTy).Contents (Elt F) → (⟨S4x512x32, .f32⟩ : BufTy).Contents (Elt F)),
  StableHlo.binary main_v120 main_v128 main_v129 (Host.divf : (⟨S4x512x32, .f32⟩ : BufTy).Contents (Elt F) → (⟨S4x512x32, .f32⟩ : BufTy).Contents (Elt F) → (⟨S4x512x32, .f32⟩ : BufTy).Contents (Elt F)),
  StableHlo.nullary main_cst_25 (constant S_ .f32 0x00000000#32),
  StableHlo.unary main_cst_25 main_v130 (broadcastInDim S4x512 ![] bcast_S_S4x512 : (⟨S_, .f32⟩ : BufTy).Contents (Elt F) → (⟨S4x512, .f32⟩ : BufTy).Contents (Elt F)),
  StableHlo.binary main_v125 main_v130 main_v131 (cmpf .oeq : (⟨S4x512, .f32⟩ : BufTy).Contents (Elt F) → (⟨S4x512, .f32⟩ : BufTy).Contents (Elt F) → (⟨S4x512, .i1⟩ : BufTy).Contents (Elt F)),
  StableHlo.unary main_v131 main_v132 (broadcastInDim S4x512x1 ![0, 1] bcast_S4x512_S4x512x1_0_1 : (⟨S4x512, .i1⟩ : BufTy).Contents (Elt F) → (⟨S4x512x1, .i1⟩ : BufTy).Contents (Elt F)),
  StableHlo.unary main_v108 main_v133 (broadcastInDim S4x512x1 ![0, 1] bcast_S4x512_S4x512x1_0_1 : (⟨S4x512, .i32⟩ : BufTy).Contents (Elt F) → (⟨S4x512x1, .i32⟩ : BufTy).Contents (Elt F)),
  StableHlo.unary main_v133 main_v134 (broadcastInDim S4x512x32 ![0, 1, 2] bcast_S4x512x1_S4x512x32_0_1_2 : (⟨S4x512x1, .i32⟩ : BufTy).Contents (Elt F) → (⟨S4x512x32, .i32⟩ : BufTy).Contents (Elt F)),
  StableHlo.TRef.nullary main_call11.c (constantI S_ 32 0#32),
  StableHlo.TRef.unary main_call11.c main_call11.v0 (broadcastInDim S4x512x32 ![] bcast_S_S4x512x32),
  StableHlo.TRef.binary (.of main_v134 : StableHlo.TRef sig ⟨S4x512x32, .i32⟩) main_call11.v0 main_call11.v1 (cmpi .slt),
  StableHlo.TRef.nullary main_call11.c_0 (constantI S_ 32 8192#32),
  StableHlo.TRef.unary main_call11.c_0 main_call11.v2 (broadcastInDim S4x512x32 ![] bcast_S_S4x512x32),
  StableHlo.TRef.binary (.of main_v134 : StableHlo.TRef sig ⟨S4x512x32, .i32⟩) main_call11.v2 main_call11.v3 addi,
  StableHlo.TRef.ternary main_call11.v1 main_call11.v3 (.of main_v134 : StableHlo.TRef sig ⟨S4x512x32, .i32⟩) main_call11.v4 select,
  StableHlo.TRef.reshape main_call11.v4 main_call11.v5 (rfl : (.i32 : EltTy) = .i32) shapeCasts_S4x512x32_S4x512x32x1,
  StableHlo.TRef.nullary main_call11.c_1 (constantI S1 32 8191#32),
  StableHlo.TRef.nullary main_call11.c_2 (constantI S_ 32 0#32),
  StableHlo.TRef.unary main_call11.c_2 main_call11.v6 (broadcastInDim S4x512x32x1 ![] bcast_S_S4x512x32x1),
  StableHlo.TRef.binary main_call11.v5 main_call11.v6 main_call11.v7 (cmpi .sge),
  StableHlo.TRef.unary main_call11.c_1 main_call11.v8 (broadcastInDim S1x1x1x1 ![3] bcast_S1_S1x1x1x1_3),
  StableHlo.TRef.unary main_call11.v8 main_call11.v9 (broadcastInDim S4x512x32x1 ![0, 1, 2, 3] bcast_S1x1x1x1_S4x512x32x1_0_1_2_3),
  StableHlo.TRef.binary main_call11.v5 main_call11.v9 main_call11.v10 (cmpi .sle),
  StableHlo.TRef.binary main_call11.v7 main_call11.v10 main_call11.v11 andi,
  StableHlo.TRef.nullary main_call11.c_3 (constantI S_ 1 1#1),
  StableHlo.TRef.binary main_call11.v11 main_call11.c_3 main_call11.v12 (fun x v => Host.reduce IntOp.andi x v reducesTo_S4x512x32x1_S4x512x32_d3 h_S_),
  StableHlo.TRef.binary (.of main_arg0 : StableHlo.TRef sig ⟨S4x8192x32, .f32⟩) main_call11.v5 main_call11.v13 (fun x i => Host.gather gather_S4x8192x32_S4x512x32x1_S4x512x32_n_1_02_02_1_3_111 x i),
  StableHlo.TRef.nullary main_call11.cst (constant S_ .f32 0x7FC00000#32),
  StableHlo.TRef.unary main_call11.cst main_call11.v14 (broadcastInDim S4x512x32 ![] bcast_S_S4x512x32),
  StableHlo.TRef.ternary main_call11.v12 main_call11.v13 main_call11.v14 main_call11.v15 select,
  StableHlo.TRef.unary (.of main_v132 : StableHlo.TRef sig ⟨S4x512x1, .i1⟩) main_call12.v0 (broadcastInDim S4x512x32 ![0, 1, 2] bcast_S4x512x1_S4x512x32_0_1_2),
  StableHlo.TRef.ternary main_call12.v0 (.of main_v135 : StableHlo.TRef sig ⟨S4x512x32, .f32⟩) (.of main_v129 : StableHlo.TRef sig ⟨S4x512x32, .f32⟩) main_call12.v1 select]

/-- What it writes. -/
def upd2W : List (Ref sig .tc) := [main_v107, main_v108, main_v109, main_v110, main_c_20, main_v111, main_v112, main_v113, main_v114, main_v115, main_v116, main_cst_21, main_v117, main_v118, main_v119, main_v120, main_cst_22, main_v121, main_cst_23, main_v122, main_v123, main_v124, main_v125, main_cst_24, main_call10_v0, main_call10_v1, main_v126, main_v127, main_v128, main_v129, main_cst_25, main_v130, main_v131, main_v132, main_v133, main_v134, main_call11_c, main_call11_v0, main_call11_v1, main_call11_c_0, main_call11_v2, main_call11_v3, main_call11_v4, main_call11_v5, main_call11_c_1, main_call11_c_2, main_call11_v6, main_call11_v7, main_call11_v8, main_call11_v9, main_call11_v10, main_call11_v11, main_call11_c_3, main_call11_v12, main_call11_v13, main_call11_cst, main_call11_v14, main_v135, main_call12_v0, main_v136]

/-- A stretch of the operations that assign the points. -/
def asg3_0 : List (HloOp τ sig (Elt F)) := [
  StableHlo.binary main_arg0 main_arg0 main_v137 (mulf : (⟨S4x8192x32, .f32⟩ : BufTy).Contents (Elt F) → (⟨S4x8192x32, .f32⟩ : BufTy).Contents (Elt F) → (⟨S4x8192x32, .f32⟩ : BufTy).Contents (Elt F)),
  StableHlo.nullary main_cst_26 (constant S_ .f32 0x00000000#32),
  StableHlo.binary main_v137 main_cst_26 main_v138 ((fun x v => Host.reduceAdd x v reducesTo_S4x8192x32_S4x8192_d2 h_S_) : (⟨S4x8192x32, .f32⟩ : BufTy).Contents (Elt F) → (⟨S_, .f32⟩ : BufTy).Contents (Elt F) → (⟨S4x8192, .f32⟩ : BufTy).Contents (Elt F)),
  StableHlo.unary main_v138 main_v139 (broadcastInDim S4x8192x1 ![0, 1] bcast_S4x8192_S4x8192x1_0_1 : (⟨S4x8192, .f32⟩ : BufTy).Contents (Elt F) → (⟨S4x8192x1, .f32⟩ : BufTy).Contents (Elt F)),
  StableHlo.binary main_v136 main_v136 main_v140 (mulf : (⟨S4x512x32, .f32⟩ : BufTy).Contents (Elt F) → (⟨S4x512x32, .f32⟩ : BufTy).Contents (Elt F) → (⟨S4x512x32, .f32⟩ : BufTy).Contents (Elt F)),
  StableHlo.nullary main_cst_27 (constant S_ .f32 0x00000000#32),
  StableHlo.binary main_v140 main_cst_27 main_v141 ((fun x v => Host.reduceAdd x v reducesTo_S4x512x32_S4x512_d2 h_S_) : (⟨S4x512x32, .f32⟩ : BufTy).Contents (Elt F) → (⟨S_, .f32⟩ : BufTy).Contents (Elt F) → (⟨S4x512, .f32⟩ : BufTy).Contents (Elt F)),
  StableHlo.unary main_v141 main_v142 (broadcastInDim S4x1x512 ![0, 2] bcast_S4x512_S4x1x512_0_2 : (⟨S4x512, .f32⟩ : BufTy).Contents (Elt F) → (⟨S4x1x512, .f32⟩ : BufTy).Contents (Elt F)),
  StableHlo.binary main_arg0 main_v136 main_v143 ((fun l r => Host.dotGeneral dot_S4x8192x32_S4x512x32_S4x8192x512_2_2_1_1_0_0 none l r) : (⟨S4x8192x32, .f32⟩ : BufTy).Contents (Elt F) → (⟨S4x512x32, .f32⟩ : BufTy).Contents (Elt F) → (⟨S4x8192x512, .f32⟩ : BufTy).Contents (Elt F)),
  StableHlo.unary main_v139 main_v144 (broadcastInDim S4x8192x512 ![0, 1, 2] bcast_S4x8192x1_S4x8192x512_0_1_2 : (⟨S4x8192x1, .f32⟩ : BufTy).Contents (Elt F) → (⟨S4x8192x512, .f32⟩ : BufTy).Contents (Elt F)),
  StableHlo.unary main_v142 main_v145 (broadcastInDim S4x8192x512 ![0, 1, 2] bcast_S4x1x512_S4x8192x512_0_1_2 : (⟨S4x1x512, .f32⟩ : BufTy).Contents (Elt F) → (⟨S4x8192x512, .f32⟩ : BufTy).Contents (Elt F)),
  StableHlo.binary main_v144 main_v145 main_v146 (addf : (⟨S4x8192x512, .f32⟩ : BufTy).Contents (Elt F) → (⟨S4x8192x512, .f32⟩ : BufTy).Contents (Elt F) → (⟨S4x8192x512, .f32⟩ : BufTy).Contents (Elt F)),
  StableHlo.nullary main_cst_28 (constant S_ .f32 0x40000000#32),
  StableHlo.unary main_cst_28 main_v147 (broadcastInDim S4x8192x512 ![] bcast_S_S4x8192x512 : (⟨S_, .f32⟩ : BufTy).Contents (Elt F) → (⟨S4x8192x512, .f32⟩ : BufTy).Contents (Elt F)),
  StableHlo.binary main_v147 main_v143 main_v148 (mulf : (⟨S4x8192x512, .f32⟩ : BufTy).Contents (Elt F) → (⟨S4x8192x512, .f32⟩ : BufTy).Contents (Elt F) → (⟨S4x8192x512, .f32⟩ : BufTy).Contents (Elt F))]

/-- What it writes. -/
def asg3_0W : List (Ref sig .tc) := [main_v137, main_cst_26, main_v138, main_v139, main_v140, main_cst_27, main_v141, main_v142, main_v143, main_v144, main_v145, main_v146, main_cst_28, main_v147, main_v148]

/-- A stretch of the operations that assign the points. -/
def asg3_1 : List (HloOp τ sig (Elt F)) := [
  StableHlo.binary main_v146 main_v148 main_v149 (subf : (⟨S4x8192x512, .f32⟩ : BufTy).Contents (Elt F) → (⟨S4x8192x512, .f32⟩ : BufTy).Contents (Elt F) → (⟨S4x8192x512, .f32⟩ : BufTy).Contents (Elt F)),
  StableHlo.TRef.nullary main_call13.v0 (iotaInDim S4x8192x512 32 2),
  StableHlo.TRef.nullary main_call13.cst (constant S_ .f32 0x7F800000#32),
  StableHlo.TRef.nullary main_call13.c (constantI S_ 32 0#32),
  StableHlo.TRef.quaternary (.of main_v149 : StableHlo.TRef sig ⟨S4x8192x512, .f32⟩) main_call13.v0 main_call13.cst main_call13.c main_call13.v1_0 (fun x y u v j => (Host.argReduce reducer_argmin_f32_i32 x y u v reducesTo_S4x8192x512_S4x8192_d2 h_S_ j).1),
  StableHlo.TRef.quaternary (.of main_v149 : StableHlo.TRef sig ⟨S4x8192x512, .f32⟩) main_call13.v0 main_call13.cst main_call13.c main_call13.v1_1 (fun x y u v j => (Host.argReduce reducer_argmin_f32_i32 x y u v reducesTo_S4x8192x512_S4x8192_d2 h_S_ j).2)]

/-- What it writes. -/
def asg3_1W : List (Ref sig .tc) := [main_v149, main_call13_v0, main_call13_cst, main_call13_c, main_call13_v1_0, main_v150]

/-- The stretch whole. -/
def asg3 : List (HloOp τ sig (Elt F)) := asg3_0 ++ asg3_1

/-- What it writes. -/
def asg3W : List (Ref sig .tc) := asg3_0W ++ asg3_1W

/-- A stretch of the operations that renew the centroids. -/
def upd3 : List (HloOp τ sig (Elt F)) := [
  StableHlo.unary main_arg2 main_v151 ((extractStridedSlice S4x512x1 ![0, 0, 3] · slices_S4x512x4_S4x512x1_0_0_3) : (⟨S4x512x4, .i32⟩ : BufTy).Contents (Elt F) → (⟨S4x512x1, .i32⟩ : BufTy).Contents (Elt F)),
  StableHlo.reshape main_v151 main_v152 (rfl : (.i32 : EltTy) = .i32) shapeCasts_S4x512x1_S4x512,
  StableHlo.nullary main_v153 (iotaInDim S4 32 0),
  StableHlo.unary main_v153 main_v154 (broadcastInDim S4x1 ![0] bcast_S4_S4x1_0 : (⟨S4, .i32⟩ : BufTy).Contents (Elt F) → (⟨S4x1, .i32⟩ : BufTy).Contents (Elt F)),
  StableHlo.nullary main_c_29 (constantI S_ 32 512#32),
  StableHlo.unary main_c_29 main_v155 (broadcastInDim S4x1 ![] bcast_S_S4x1 : (⟨S_, .i32⟩ : BufTy).Contents (Elt F) → (⟨S4x1, .i32⟩ : BufTy).Contents (Elt F)),
  StableHlo.binary main_v154 main_v155 main_v156 (muli : (⟨S4x1, .i32⟩ : BufTy).Contents (Elt F) → (⟨S4x1, .i32⟩ : BufTy).Contents (Elt F) → (⟨S4x1, .i32⟩ : BufTy).Contents (Elt F)),
  StableHlo.unary main_v156 main_v157 (broadcastInDim S4x8192 ![0, 1] bcast_S4x1_S4x8192_0_1 : (⟨S4x1, .i32⟩ : BufTy).Contents (Elt F) → (⟨S4x8192, .i32⟩ : BufTy).Contents (Elt F)),
  StableHlo.binary main_v150 main_v157 main_v158 (addi : (⟨S4x8192, .i32⟩ : BufTy).Contents (Elt F) → (⟨S4x8192, .i32⟩ : BufTy).Contents (Elt F) → (⟨S4x8192, .i32⟩ : BufTy).Contents (Elt F)),
  StableHlo.reshape main_v158 main_v159 (rfl : (.i32 : EltTy) = .i32) shapeCasts_S4x8192_S32768,
  StableHlo.reshape main_arg0 main_v160 (rfl : (.f32 : EltTy) = .f32) shapeCasts_S4x8192x32_S32768x32,
  StableHlo.nullary main_cst_30 (constant S_ .f32 0x00000000#32),
  StableHlo.unary main_cst_30 main_v161 (broadcastInDim S2048x32 ![] bcast_S_S2048x32 : (⟨S_, .f32⟩ : BufTy).Contents (Elt F) → (⟨S2048x32, .f32⟩ : BufTy).Contents (Elt F)),
  StableHlo.unary main_v159 main_v162 (broadcastInDim S32768x1 ![0] bcast_S32768_S32768x1_0 : (⟨S32768, .i32⟩ : BufTy).Contents (Elt F) → (⟨S32768x1, .i32⟩ : BufTy).Contents (Elt F)),
  StableHlo.ternary main_v161 main_v162 main_v160 main_v163 ((fun x i u => Host.scatterAdd scatter_S2048x32_S32768x1_S32768x32_1_0_0_1 x i u) : (⟨S2048x32, .f32⟩ : BufTy).Contents (Elt F) → (⟨S32768x1, .i32⟩ : BufTy).Contents (Elt F) → (⟨S32768x32, .f32⟩ : BufTy).Contents (Elt F) → (⟨S2048x32, .f32⟩ : BufTy).Contents (Elt F)),
  StableHlo.reshape main_v163 main_v164 (rfl : (.f32 : EltTy) = .f32) shapeCasts_S2048x32_S4x512x32,
  StableHlo.nullary main_cst_31 (constant S_ .f32 0x3F800000#32),
  StableHlo.unary main_cst_31 main_v165 (broadcastInDim S32768 ![] bcast_S_S32768 : (⟨S_, .f32⟩ : BufTy).Contents (Elt F) → (⟨S32768, .f32⟩ : BufTy).Contents (Elt F)),
  StableHlo.nullary main_cst_32 (constant S_ .f32 0x00000000#32),
  StableHlo.unary main_cst_32 main_v166 (broadcastInDim S2048 ![] bcast_S_S2048 : (⟨S_, .f32⟩ : BufTy).Contents (Elt F) → (⟨S2048, .f32⟩ : BufTy).Contents (Elt F)),
  StableHlo.unary main_v159 main_v167 (broadcastInDim S32768x1 ![0] bcast_S32768_S32768x1_0 : (⟨S32768, .i32⟩ : BufTy).Contents (Elt F) → (⟨S32768x1, .i32⟩ : BufTy).Contents (Elt F)),
  StableHlo.ternary main_v166 main_v167 main_v165 main_v168 ((fun x i u => Host.scatterAdd scatter_S2048_S32768x1_S32768_n_0_0_1 x i u) : (⟨S2048, .f32⟩ : BufTy).Contents (Elt F) → (⟨S32768x1, .i32⟩ : BufTy).Contents (Elt F) → (⟨S32768, .f32⟩ : BufTy).Contents (Elt F) → (⟨S2048, .f32⟩ : BufTy).Contents (Elt F)),
  StableHlo.reshape main_v168 main_v169 (rfl : (.f32 : EltTy) = .f32) shapeCasts_S2048_S4x512,
  StableHlo.nullary main_cst_33 (constant S_ .f32 0x3F800000#32),
  StableHlo.TRef.unary (.of main_cst_33 : StableHlo.TRef sig ⟨S_, .f32⟩) main_call14.v0 id,
  StableHlo.TRef.unary main_call14.v0 main_call14.v1 (broadcastInDim S4x512 ![] bcast_S_S4x512),
  StableHlo.TRef.binary main_call14.v1 (.of main_v169 : StableHlo.TRef sig ⟨S4x512, .f32⟩) main_call14.v2 maximumf,
  StableHlo.unary main_v170 main_v171 (broadcastInDim S4x512x1 ![0, 1] bcast_S4x512_S4x512x1_0_1 : (⟨S4x512, .f32⟩ : BufTy).Contents (Elt F) → (⟨S4x512x1, .f32⟩ : BufTy).Contents (Elt F)),
  StableHlo.unary main_v171 main_v172 (broadcastInDim S4x512x32 ![0, 1, 2] bcast_S4x512x1_S4x512x32_0_1_2 : (⟨S4x512x1, .f32⟩ : BufTy).Contents (Elt F) → (⟨S4x512x32, .f32⟩ : BufTy).Contents (Elt F)),
  StableHlo.binary main_v164 main_v172 main_v173 (Host.divf : (⟨S4x512x32, .f32⟩ : BufTy).Contents (Elt F) → (⟨S4x512x32, .f32⟩ : BufTy).Contents (Elt F) → (⟨S4x512x32, .f32⟩ : BufTy).Contents (Elt F)),
  StableHlo.nullary main_cst_34 (constant S_ .f32 0x00000000#32),
  StableHlo.unary main_cst_34 main_v174 (broadcastInDim S4x512 ![] bcast_S_S4x512 : (⟨S_, .f32⟩ : BufTy).Contents (Elt F) → (⟨S4x512, .f32⟩ : BufTy).Contents (Elt F)),
  StableHlo.binary main_v169 main_v174 main_v175 (cmpf .oeq : (⟨S4x512, .f32⟩ : BufTy).Contents (Elt F) → (⟨S4x512, .f32⟩ : BufTy).Contents (Elt F) → (⟨S4x512, .i1⟩ : BufTy).Contents (Elt F)),
  StableHlo.unary main_v175 main_v176 (broadcastInDim S4x512x1 ![0, 1] bcast_S4x512_S4x512x1_0_1 : (⟨S4x512, .i1⟩ : BufTy).Contents (Elt F) → (⟨S4x512x1, .i1⟩ : BufTy).Contents (Elt F)),
  StableHlo.unary main_v152 main_v177 (broadcastInDim S4x512x1 ![0, 1] bcast_S4x512_S4x512x1_0_1 : (⟨S4x512, .i32⟩ : BufTy).Contents (Elt F) → (⟨S4x512x1, .i32⟩ : BufTy).Contents (Elt F)),
  StableHlo.unary main_v177 main_v178 (broadcastInDim S4x512x32 ![0, 1, 2] bcast_S4x512x1_S4x512x32_0_1_2 : (⟨S4x512x1, .i32⟩ : BufTy).Contents (Elt F) → (⟨S4x512x32, .i32⟩ : BufTy).Contents (Elt F)),
  StableHlo.TRef.nullary main_call15.c (constantI S_ 32 0#32),
  StableHlo.TRef.unary main_call15.c main_call15.v0 (broadcastInDim S4x512x32 ![] bcast_S_S4x512x32),
  StableHlo.TRef.binary (.of main_v178 : StableHlo.TRef sig ⟨S4x512x32, .i32⟩) main_call15.v0 main_call15.v1 (cmpi .slt),
  StableHlo.TRef.nullary main_call15.c_0 (constantI S_ 32 8192#32),
  StableHlo.TRef.unary main_call15.c_0 main_call15.v2 (broadcastInDim S4x512x32 ![] bcast_S_S4x512x32),
  StableHlo.TRef.binary (.of main_v178 : StableHlo.TRef sig ⟨S4x512x32, .i32⟩) main_call15.v2 main_call15.v3 addi,
  StableHlo.TRef.ternary main_call15.v1 main_call15.v3 (.of main_v178 : StableHlo.TRef sig ⟨S4x512x32, .i32⟩) main_call15.v4 select,
  StableHlo.TRef.reshape main_call15.v4 main_call15.v5 (rfl : (.i32 : EltTy) = .i32) shapeCasts_S4x512x32_S4x512x32x1,
  StableHlo.TRef.nullary main_call15.c_1 (constantI S1 32 8191#32),
  StableHlo.TRef.nullary main_call15.c_2 (constantI S_ 32 0#32),
  StableHlo.TRef.unary main_call15.c_2 main_call15.v6 (broadcastInDim S4x512x32x1 ![] bcast_S_S4x512x32x1),
  StableHlo.TRef.binary main_call15.v5 main_call15.v6 main_call15.v7 (cmpi .sge),
  StableHlo.TRef.unary main_call15.c_1 main_call15.v8 (broadcastInDim S1x1x1x1 ![3] bcast_S1_S1x1x1x1_3),
  StableHlo.TRef.unary main_call15.v8 main_call15.v9 (broadcastInDim S4x512x32x1 ![0, 1, 2, 3] bcast_S1x1x1x1_S4x512x32x1_0_1_2_3),
  StableHlo.TRef.binary main_call15.v5 main_call15.v9 main_call15.v10 (cmpi .sle),
  StableHlo.TRef.binary main_call15.v7 main_call15.v10 main_call15.v11 andi,
  StableHlo.TRef.nullary main_call15.c_3 (constantI S_ 1 1#1),
  StableHlo.TRef.binary main_call15.v11 main_call15.c_3 main_call15.v12 (fun x v => Host.reduce IntOp.andi x v reducesTo_S4x512x32x1_S4x512x32_d3 h_S_),
  StableHlo.TRef.binary (.of main_arg0 : StableHlo.TRef sig ⟨S4x8192x32, .f32⟩) main_call15.v5 main_call15.v13 (fun x i => Host.gather gather_S4x8192x32_S4x512x32x1_S4x512x32_n_1_02_02_1_3_111 x i),
  StableHlo.TRef.nullary main_call15.cst (constant S_ .f32 0x7FC00000#32),
  StableHlo.TRef.unary main_call15.cst main_call15.v14 (broadcastInDim S4x512x32 ![] bcast_S_S4x512x32),
  StableHlo.TRef.ternary main_call15.v12 main_call15.v13 main_call15.v14 main_call15.v15 select,
  StableHlo.TRef.unary (.of main_v176 : StableHlo.TRef sig ⟨S4x512x1, .i1⟩) main_call16.v0 (broadcastInDim S4x512x32 ![0, 1, 2] bcast_S4x512x1_S4x512x32_0_1_2),
  StableHlo.TRef.ternary main_call16.v0 (.of main_v179 : StableHlo.TRef sig ⟨S4x512x32, .f32⟩) (.of main_v173 : StableHlo.TRef sig ⟨S4x512x32, .f32⟩) main_call16.v1 select]

/-- What it writes. -/
def upd3W : List (Ref sig .tc) := [main_v151, main_v152, main_v153, main_v154, main_c_29, main_v155, main_v156, main_v157, main_v158, main_v159, main_v160, main_cst_30, main_v161, main_v162, main_v163, main_v164, main_cst_31, main_v165, main_cst_32, main_v166, main_v167, main_v168, main_v169, main_cst_33, main_call14_v0, main_call14_v1, main_v170, main_v171, main_v172, main_v173, main_cst_34, main_v174, main_v175, main_v176, main_v177, main_v178, main_call15_c, main_call15_v0, main_call15_v1, main_call15_c_0, main_call15_v2, main_call15_v3, main_call15_v4, main_call15_v5, main_call15_c_1, main_call15_c_2, main_call15_v6, main_call15_v7, main_call15_v8, main_call15_v9, main_call15_v10, main_call15_v11, main_call15_c_3, main_call15_v12, main_call15_v13, main_call15_cst, main_call15_v14, main_v179, main_call16_v0, main_v180]

/-- A part of the program is its stretches in order. -/
theorem part0_seq (d : Dev nD) : main_part0 (F := F) d = seq (seg0 ++ asg0 ++ upd0 ++ asg1_0) := rfl

/-- A part of the program is its stretches in order. -/
theorem part1_seq (d : Dev nD) : main_part1 (F := F) d = seq (asg1_1 ++ upd1 ++ asg2_0) := rfl

/-- A part of the program is its stretches in order. -/
theorem part2_seq (d : Dev nD) : main_part2 (F := F) d = seq (asg2_1 ++ upd2 ++ asg3_0) := rfl

/-- A part of the program is its stretches in order. -/
theorem part3_seq (d : Dev nD) : main_part3 (F := F) d = seq (asg3_1 ++ upd3) := rfl

end Cert.ReferenceIdeal.Km

end
-- ==== Proof.RefRun.lean ====
/-
  The reference's run, over any float values: what each stretch of operations leaves, and the two results at the end.
-/
module

public import proofs.«01_k».proof.Proof.RefOps
public import Idealize.ShloMosaic.Lib.Claim

@[expose] public section

set_option maxRecDepth 65536
set_option maxHeartbeats 2000000

noncomputable section

namespace Cert.ReferenceIdeal.Km

open Cert.ReferenceIdeal Cert.ReferenceIdeal.Gen
open Idealize.ShloMosaic Idealize.ShloMosaic.TcCoe Idealize.ShloMosaic.StableHlo
open Idealize.SL.Sem

variable {F : FTy → Type} [FloatOps F]

/-- A stretch that only writes the buffers of `W`, within the TensorCore's, and determines what it writes. -/
structure Writes (ops : List (HloOp τ sig (Elt F))) (W : List (Ref sig .tc)) : Prop where
  /-- Its writes, in order. -/
  writes : ops.map HloOp.writes = W.map fun r => {Proc.devRef (τ := τ) .tc r}
  /-- Its buffers. -/
  bufs : ops.Forall fun op => op.bufs ⊆ tcRefs τ sig
  /-- Its results are determined. -/
  fresh : ops.Forall fun op => op.fresh = ∅

/-- Two stretches one after the other. -/
theorem Writes.append {o₁ o₂ : List (HloOp τ sig (Elt F))} {W₁ W₂ : List (Ref sig .tc)} (h₁ : Writes o₁ W₁) (h₂ : Writes o₂ W₂) :
    Writes (o₁ ++ o₂) (W₁ ++ W₂) where
  writes := by rw [List.map_append, List.map_append, h₁.writes, h₂.writes]
  bufs := List.forall_append.mpr ⟨h₁.bufs, h₂.bufs⟩
  fresh := List.forall_append.mpr ⟨h₁.fresh, h₂.fresh⟩

/-- A stretch leaves alone what it does not write. -/
theorem Writes.keeps {ops : List (HloOp τ sig (Elt F))} {W : List (Ref sig .tc)} (h : Writes ops W) (V : Valuation τ sig (Elt F))
    (r : Ref sig .tc) (hr : r ∉ W) : after ops V (Proc.devRef .tc r) = V (Proc.devRef .tc r) :=
  after_unwritten W h.writes hr V

/-- What is left after two stretches. -/
theorem after_two (o₁ o₂ : List (HloOp τ sig (Elt F))) (V : Valuation τ sig (Elt F)) : after (o₁ ++ o₂) V = after o₂ (after o₁ V) := by
  induction o₁ generalizing V with
  | nil => rfl
  | cons op l ih => exact ih _

/-- What a stretch writes. -/
theorem seg0_writes : Writes (F := F) seg0 seg0W := ⟨rfl, by simp [seg0], forall_fresh_of_map rfl⟩

/-- What a stretch writes. -/
theorem asg0_writes : Writes (F := F) asg0 asg0W := ⟨rfl, by simp [asg0], forall_fresh_of_map rfl⟩

/-- What a stretch writes. -/
theorem upd0_writes : Writes (F := F) upd0 upd0W := ⟨rfl, by simp [upd0], forall_fresh_of_map rfl⟩

/-- What a stretch writes. -/
theorem asg1_0_writes : Writes (F := F) asg1_0 asg1_0W := ⟨rfl, by simp [asg1_0], forall_fresh_of_map rfl⟩

/-- What a stretch writes. -/
theorem asg1_1_writes : Writes (F := F) asg1_1 asg1_1W := ⟨rfl, by simp [asg1_1], forall_fresh_of_map rfl⟩

/-- What a stretch writes. -/
theorem upd1_writes : Writes (F := F) upd1 upd1W := ⟨rfl, by simp [upd1], forall_fresh_of_map rfl⟩

/-- What a stretch writes. -/
theorem asg2_0_writes : Writes (F := F) asg2_0 asg2_0W := ⟨rfl, by simp [asg2_0], forall_fresh_of_map rfl⟩

/-- What a stretch writes. -/
theorem asg2_1_writes : Writes (F := F) asg2_1 asg2_1W := ⟨rfl, by simp [asg2_1], forall_fresh_of_map rfl⟩

/-- What a stretch writes. -/
theorem upd2_writes : Writes (F := F) upd2 upd2W := ⟨rfl, by simp [upd2], forall_fresh_of_map rfl⟩

/-- What a stretch writes. -/
theorem asg3_0_writes : Writes (F := F) asg3_0 asg3_0W := ⟨rfl, by simp [asg3_0], forall_fresh_of_map rfl⟩

/-- What a stretch writes. -/
theorem asg3_1_writes : Writes (F := F) asg3_1 asg3_1W := ⟨rfl, by simp [asg3_1], forall_fresh_of_map rfl⟩

/-- What a stretch writes. -/
theorem upd3_writes : Writes (F := F) upd3 upd3W := ⟨rfl, by simp [upd3], forall_fresh_of_map rfl⟩

/-- The first centroids' table of numbers. -/
theorem table_val (V : Valuation τ sig (Elt F)) :
    after (seg0.take 3) V (Proc.devRef .tc main_v2) = table (V (Proc.devRef .tc main_arg1)) := by
  unfold seg0
  simp only [List.take]
  after_reads_simp
  rfl

/-- The points that the table in the buffer names. -/
theorem take_val (V : Valuation τ sig (Elt F)) :
    after (seg0.drop 3) V (Proc.devRef .tc main_v3) = take (V (Proc.devRef .tc main_arg0)) (V (Proc.devRef .tc main_v2)) := by
  unfold seg0
  simp only [List.drop]
  after_reads_simp
  simp -implicitDefEqProofs only [TRef.toBuf, TRef.ofBuf, cast_cast, cast_eq]
  unfold take
  refine congrArg₂ (fun (p : IVec S4x512x32 1) q => select p q _) ?_ ?_
  · rfl
  · rfl

/-- The table's operations leave the points alone. -/
theorem table_keeps (V : Valuation τ sig (Elt F)) :
    after (seg0.take 3) V (Proc.devRef .tc main_arg0) = V (Proc.devRef .tc main_arg0) :=
  after_unwritten (seg0W.take 3) rfl (by decide) V

/-- The first centroids. -/
theorem seg0_val (V : Valuation τ sig (Elt F)) :
    after seg0 V (Proc.devRef .tc main_v3) = pick (V (Proc.devRef .tc main_arg0)) (V (Proc.devRef .tc main_arg1)) := by
  have h : seg0 (F := F) = seg0.take 3 ++ seg0.drop 3 := (List.take_append_drop 3 seg0).symm
  rw [h, after_two, take_val, table_val, table_keeps]
  rfl

/-- An assignment. -/
theorem asg0_val (V : Valuation τ sig (Elt F)) :
    after asg0 V (Proc.devRef .tc main_v18) = asg (V (Proc.devRef .tc main_arg0)) (V (Proc.devRef .tc main_v3)) := by
  unfold asg0
  after_reads_simp
  simp -implicitDefEqProofs only [TRef.toBuf, TRef.ofBuf, cast_cast, cast_eq]
  rfl

/-- A renewal of the centroids. -/
theorem upd0_val (V : Valuation τ sig (Elt F)) :
    after upd0 V (Proc.devRef .tc main_v48) = upd (V (Proc.devRef .tc main_arg0)) (V (Proc.devRef .tc main_v18)) (draw0 (V (Proc.devRef .tc main_arg2))) := by
  unfold upd0
  after_reads_simp
  simp -implicitDefEqProofs only [TRef.toBuf, TRef.ofBuf, cast_cast, cast_eq]
  rfl

/-- An assignment. -/
theorem asg1_val (V : Valuation τ sig (Elt F)) :
    after asg1 V (Proc.devRef .tc main_v62) = asg (V (Proc.devRef .tc main_arg0)) (V (Proc.devRef .tc main_v48)) := by
  unfold asg1 asg1_0 asg1_1
  after_reads_simp
  simp -implicitDefEqProofs only [TRef.toBuf, TRef.ofBuf, cast_cast, cast_eq]
  rfl

/-- A renewal of the centroids. -/
theorem upd1_val (V : Valuation τ sig (Elt F)) :
    after upd1 V (Proc.devRef .tc main_v92) = upd (V (Proc.devRef .tc main_arg0)) (V (Proc.devRef .tc main_v62)) (draw1 (V (Proc.devRef .tc main_arg2))) := by
  unfold upd1
  after_reads_simp
  simp -implicitDefEqProofs only [TRef.toBuf, TRef.ofBuf, cast_cast, cast_eq]
  rfl

/-- An assignment. -/
theorem asg2_val (V : Valuation τ sig (Elt F)) :
    after asg2 V (Proc.devRef .tc main_v106) = asg (V (Proc.devRef .tc main_arg0)) (V (Proc.devRef .tc main_v92)) := by
  unfold asg2 asg2_0 asg2_1
  after_reads_simp
  simp -implicitDefEqProofs only [TRef.toBuf, TRef.ofBuf, cast_cast, cast_eq]
  rfl

/-- A renewal of the centroids. -/
theorem upd2_val (V : Valuation τ sig (Elt F)) :
    after upd2 V (Proc.devRef .tc main_v136) = upd (V (Proc.devRef .tc main_arg0)) (V (Proc.devRef .tc main_v106)) (draw2 (V (Proc.devRef .tc main_arg2))) := by
  unfold upd2
  after_reads_simp
  simp -implicitDefEqProofs only [TRef.toBuf, TRef.ofBuf, cast_cast, cast_eq]
  rfl

/-- An assignment. -/
theorem asg3_val (V : Valuation τ sig (Elt F)) :
    after asg3 V (Proc.devRef .tc main_v150) = asg (V (Proc.devRef .tc main_arg0)) (V (Proc.devRef .tc main_v136)) := by
  unfold asg3 asg3_0 asg3_1
  after_reads_simp
  simp -implicitDefEqProofs only [TRef.toBuf, TRef.ofBuf, cast_cast, cast_eq]
  rfl

/-- A renewal of the centroids. -/
theorem upd3_val (V : Valuation τ sig (Elt F)) :
    after upd3 V (Proc.devRef .tc main_v180) = upd (V (Proc.devRef .tc main_arg0)) (V (Proc.devRef .tc main_v150)) (draw3 (V (Proc.devRef .tc main_arg2))) := by
  unfold upd3
  after_reads_simp
  simp -implicitDefEqProofs only [TRef.toBuf, TRef.ofBuf, cast_cast, cast_eq]
  rfl

/-- The whole line of operations. -/
def line : List (HloOp τ sig (Elt F)) :=
  (seg0 ++ asg0 ++ upd0 ++ asg1_0) ++ (asg1_1 ++ upd1 ++ asg2_0) ++ (asg2_1 ++ upd2 ++ asg3_0) ++ (asg3_1 ++ upd3)

/-- The program is the line. -/
theorem main_line (d : Dev nD) : main (F := F) d = seq line := by
  have h : main (F := F) d = (main_part0 d >>= fun _ => main_part1 d >>= fun _ => main_part2 d >>= fun _ => main_part3 d) := rfl
  rw [h, part0_seq, part1_seq, part2_seq, part3_seq]
  unfold line
  rw [seq_append (_ ++ _ ++ _) (asg3_1 ++ upd3), seq_append (_ ++ _) (asg2_1 ++ upd2 ++ asg3_0), seq_append _ (asg1_1 ++ upd1 ++ asg2_0)]
  simp only [bind_assoc]

/-- The arguments are the same in both contents. -/
def Args (V V' : Valuation τ sig (Elt F)) : Prop :=
  V (Proc.devRef .tc main_arg0) = V' (Proc.devRef .tc main_arg0) ∧ V (Proc.devRef .tc main_arg1) = V' (Proc.devRef .tc main_arg1)
    ∧ V (Proc.devRef .tc main_arg2) = V' (Proc.devRef .tc main_arg2)

/-- A stretch leaves the arguments alone. -/
theorem seg0_args (V : Valuation τ sig (Elt F)) : Args (after seg0 V) V :=
  have h := seg0_writes
  ⟨h.keeps V _ (by decide), h.keeps V _ (by decide), h.keeps V _ (by decide)⟩

/-- A stretch leaves the arguments alone. -/
theorem asg0_args (V : Valuation τ sig (Elt F)) : Args (after asg0 V) V :=
  have h := asg0_writes
  ⟨h.keeps V _ (by decide), h.keeps V _ (by decide), h.keeps V _ (by decide)⟩

/-- A stretch leaves the arguments alone. -/
theorem upd0_args (V : Valuation τ sig (Elt F)) : Args (after upd0 V) V :=
  have h := upd0_writes
  ⟨h.keeps V _ (by decide), h.keeps V _ (by decide), h.keeps V _ (by decide)⟩

/-- A stretch leaves the arguments alone. -/
theorem asg1_args (V : Valuation τ sig (Elt F)) : Args (after asg1 V) V :=
  have h := (asg1_0_writes.append asg1_1_writes : Writes (F := F) asg1 asg1W)
  ⟨h.keeps V _ (by decide), h.keeps V _ (by decide), h.keeps V _ (by decide)⟩

/-- A stretch leaves the arguments alone. -/
theorem upd1_args (V : Valuation τ sig (Elt F)) : Args (after upd1 V) V :=
  have h := upd1_writes
  ⟨h.keeps V _ (by decide), h.keeps V _ (by decide), h.keeps V _ (by decide)⟩

/-- A stretch leaves the arguments alone. -/
theorem asg2_args (V : Valuation τ sig (Elt F)) : Args (after asg2 V) V :=
  have h := (asg2_0_writes.append asg2_1_writes : Writes (F := F) asg2 asg2W)
  ⟨h.keeps V _ (by decide), h.keeps V _ (by decide), h.keeps V _ (by decide)⟩

/-- A stretch leaves the arguments alone. -/
theorem upd2_args (V : Valuation τ sig (Elt F)) : Args (after upd2 V) V :=
  have h := upd2_writes
  ⟨h.keeps V _ (by decide), h.keeps V _ (by decide), h.keeps V _ (by decide)⟩

/-- A stretch leaves the arguments alone. -/
theorem asg3_args (V : Valuation τ sig (Elt F)) : Args (after asg3 V) V :=
  have h := (asg3_0_writes.append asg3_1_writes : Writes (F := F) asg3 asg3W)
  ⟨h.keeps V _ (by decide), h.keeps V _ (by decide), h.keeps V _ (by decide)⟩

/-- A stretch leaves the arguments alone. -/
theorem upd3_args (V : Valuation τ sig (Elt F)) : Args (after upd3 V) V :=
  have h := upd3_writes
  ⟨h.keeps V _ (by decide), h.keeps V _ (by decide), h.keeps V _ (by decide)⟩

/-- The line, stretch after stretch. -/
theorem line_after (V : Valuation τ sig (Elt F)) : after line V =
    after upd3 (after asg3 (after upd2 (after asg2 (after upd1 (after asg1 (after upd0 (after asg0 (after seg0 V)))))))) := by
  simp only [line, asg1, asg2, asg3, after_two]

/-- The line leaves the arguments alone. -/
theorem line_args (V : Valuation τ sig (Elt F)) : Args (after line V) V := by
  rw [line_after]
  have tr : ∀ {A B C : Valuation τ sig (Elt F)}, Args A B → Args B C → Args A C := fun h g =>
    ⟨h.1.trans g.1, h.2.1.trans g.2.1, h.2.2.trans g.2.2⟩
  exact tr (upd3_args _) <| tr (asg3_args _) <| tr (upd2_args _) <| tr (asg2_args _) <| tr (upd1_args _) <| tr (asg1_args _) <|
    tr (upd0_args _) <| tr (asg0_args _) (seg0_args _)

/-- The assignments at the end. -/
theorem line_asg (V : Valuation τ sig (Elt F)) : after line V (Proc.devRef .tc main_v150) =
    asg (V (Proc.devRef .tc main_arg0)) (cen3 (V (Proc.devRef .tc main_arg0)) (V (Proc.devRef .tc main_arg1)) (V (Proc.devRef .tc main_arg2))) := by
  rw [line_after, upd3_writes.keeps _ _ (by decide), asg3_val, upd2_val, asg2_val, upd1_val, asg1_val, upd0_val, asg0_val, seg0_val]
  simp only [(asg3_args _).1, (upd2_args _).1, (asg2_args _).1, (upd1_args _).1, (asg1_args _).1, (upd0_args _).1, (asg0_args _).1,
    (seg0_args _).1, (asg2_args _).2.2, (upd1_args _).2.2, (asg1_args _).2.2, (upd0_args _).2.2, (asg0_args _).2.2, (seg0_args _).2.2]
  rfl

/-- The centroids at the end. -/
theorem line_cen (V : Valuation τ sig (Elt F)) : after line V (Proc.devRef .tc main_v180) =
    rnd (V (Proc.devRef .tc main_arg0)) (cen3 (V (Proc.devRef .tc main_arg0)) (V (Proc.devRef .tc main_arg1)) (V (Proc.devRef .tc main_arg2)))
      (draw3 (V (Proc.devRef .tc main_arg2))) := by
  rw [line_after, upd3_val, asg3_val, upd2_val, asg2_val, upd1_val, asg1_val, upd0_val, asg0_val, seg0_val]
  simp only [(asg3_args _).1, (upd2_args _).1, (asg2_args _).1, (upd1_args _).1, (asg1_args _).1, (upd0_args _).1, (asg0_args _).1,
    (seg0_args _).1, (asg3_args _).2.2, (upd2_args _).2.2, (asg2_args _).2.2, (upd1_args _).2.2, (asg1_args _).2.2, (upd0_args _).2.2,
    (asg0_args _).2.2, (seg0_args _).2.2]
  rfl

/-- What the line writes, its buffers and its results' determinacy. -/
theorem line_writes : ∃ W, Writes (F := F) line W :=
  ⟨_, (((((seg0_writes.append asg0_writes).append upd0_writes).append asg1_0_writes).append
    ((asg1_1_writes.append upd1_writes).append asg2_0_writes)).append ((asg2_1_writes.append upd2_writes).append asg3_0_writes)).append
    (asg3_1_writes.append upd3_writes)⟩

/-- The reference runs: its two results end at the assignments and the centroids of the fourth round, its arguments as they
    were, and every counter at zero. -/
theorem run_ref (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      (r.2.mem ((c.tc : Thread nD τ).loc main_v180) = rnd (m ((c.tc : Thread nD τ).loc main_arg0))
          (cen3 (m ((c.tc : Thread nD τ).loc main_arg0)) (m ((c.tc : Thread nD τ).loc main_arg1)) (m ((c.tc : Thread nD τ).loc main_arg2)))
          (draw3 (m ((c.tc : Thread nD τ).loc main_arg2)))
        ∧ r.2.mem ((c.tc : Thread nD τ).loc main_v150) = asg (m ((c.tc : Thread nD τ).loc main_arg0))
          (cen3 (m ((c.tc : Thread nD τ).loc main_arg0)) (m ((c.tc : Thread nD τ).loc main_arg1)) (m ((c.tc : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  obtain ⟨W, hW⟩ := line_writes (F := F)
  refine θ_run_mono (run_hlo (defs (F := F)) (main (F := F)) (ops := line) main_line (by decide) (by decide) hW.bufs
    (List.forall_iff_forall_mem.mp hW.fresh) m ρ) fun r h => ⟨fun c => ⟨⟨?_, ?_⟩, ?_, ?_, ?_⟩, sem_eq_zero_of_no_sems (by decide) r.2⟩
  · rw [h c main_v180, line_cen]
  · rw [h c main_v150, line_asg]
  · rw [h c main_arg0, (line_args _).1]
  · rw [h c main_arg1, (line_args _).2.1]
  · rw [h c main_arg2, (line_args _).2.2]

end Cert.ReferenceIdeal.Km

end
-- ==== Proof.RVal.lean ====
/-
  What the reference computes on real points, over the extended reals: one round is `Means.turn`, set by set.
-/
module

public import proofs.«01_k».proof.Proof.RefSpec
public import proofs.«01_k».proof.Proof.Math
public import Idealize.ShloMosaic.Lib.Routing.OpsPair

@[expose] public section

set_option maxRecDepth 16384

noncomputable section

namespace Cert.ReferenceIdeal.Km

open Cert.ReferenceIdeal Cert.ReferenceIdeal.Gen Cert.Means
open Idealize.ShloMosaic

/-- The table of numbers, entry by entry. -/
theorem table_at (d : IVec S4x512x1 32) (b : Fin 4) (k : Fin 512) (e : Fin 32) : table d (ix3 b k e) = d (ix3 b k 0) := by
  pointwise [table]

/-- The word of a point's number is at least zero, -/
theorem word_ge (n : Fin 8192) : IntOp.cmpi .slt (BitVec.ofNat 32 n) 0#32 = 0#1 := by
  have h := small_toInt n (by omega)
  simp only [IntOp.cmpi, BitVec.slt, h]
  rfl

/-- and is in range. -/
theorem word_in (n : Fin 8192) : IntOp.cmpi .sge (BitVec.ofNat 32 n) 0#32 = 1#1 ∧ IntOp.cmpi .sle (BitVec.ofNat 32 n) 8191#32 = 1#1 := by
  have h := small_toInt n (by omega)
  have h' : (8191#32 : BitVec 32).toInt = 8191 := by decide
  have h0 : (0#32 : BitVec 32).toInt = 0 := by decide
  have hn := n.isLt
  constructor
  · simp only [IntOp.cmpi, BitVec.sle, h, h0]
    rw [decide_eq_true (by omega)]; rfl
  · simp only [IntOp.cmpi, BitVec.sle, h, h']
    rw [decide_eq_true (by omega)]; rfl

/-- A number that names a point is not wrapped. -/
theorem wrap_at (i : IVec S4x512x32 32) (b : Fin 4) (k : Fin 512) (e : Fin 32) (n : Fin 8192) (h : i (ix3 b k e) = BitVec.ofNat 32 n) :
    wrap i (ix4 b k e 0) = BitVec.ofNat 32 n := by
  pointwise [wrap, h]
  rw [word_ge]
  rfl

/-- It is in range. -/
theorem inRange_at (i : IVec S4x512x32x1 32) (b : Fin 4) (k : Fin 512) (e : Fin 32) (n : Fin 8192) (h : i (ix4 b k e 0) = BitVec.ofNat 32 n) :
    inRange i (ix3 b k e) = 1#1 := by
  pointwise [inRange]
  rw [Finset.univ_unique, Finset.fold_singleton]
  show IntOp.andi (IntOp.andi (IntOp.cmpi .sge (i (ix4 b k e 0)) 0#32) (IntOp.cmpi .sle (i (ix4 b k e 0)) 8191#32)) 1#1 = 1#1
  rw [h, (word_in n).1, (word_in n).2]
  rfl

/-- The gather, entry by entry. -/
theorem gather_at (x : FVec Ideal S4x8192x32 .f32) (i : IVec S4x512x32x1 32) (b : Fin 4) (k : Fin 512) (e : Fin 32) (n : Fin 8192)
    (h : i (ix4 b k e 0) = BitVec.ofNat 32 n) :
    Host.gather gather_S4x8192x32_S4x512x32x1_S4x512x32_n_1_02_02_1_3_111 x i (ix3 b k e) = x (ix3 b n e) := by
  unfold Host.gather
  congr 1
  funext a
  refine Fin.ext ?_
  show GatherDims.start gather_S4x8192x32_S4x512x32x1_S4x512x32_n_1_02_02_1_3_111 (ix3 b k e) i a
    + GatherDims.batchCoord gather_S4x8192x32_S4x512x32x1_S4x512x32_n_1_02_02_1_3_111 (ix3 b k e) a
    + GatherDims.offCoord gather_S4x8192x32_S4x512x32x1_S4x512x32_n_1_02_02_1_3_111 (ix3 b k e) a = _
  rw [GatherDims.offCoord_eq_zero _ _ _ (fun hm => by revert hm; revert a; decide)]
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.start_batching _ _ _ _ (by decide)]
    unfold GatherDims.batchCoord
    rw [dif_pos (by decide)]
    show 0 + (b : ℕ) + 0 = (b : ℕ)
    omega
  · rw [GatherDims.batchCoord_eq_zero _ _ _ (by decide)]
    unfold GatherDims.start
    rw [dif_pos (by decide)]
    have hsi : GatherDims.siIdx gather_S4x8192x32_S4x512x32x1_S4x512x32_n_1_02_02_1_3_111 (ix3 b k e)
        ⟨List.idxOf (1 : Fin 3) gather_S4x8192x32_S4x512x32x1_S4x512x32_n_1_02_02_1_3_111.startIndexMap, by decide⟩ = ix4 b k e 0 := by
      funext p; refine Fin.ext ?_
      match p with
      | ⟨0, _⟩ => rfl
      | ⟨1, _⟩ => rfl
      | ⟨2, _⟩ => rfl
      | ⟨3, _⟩ => rfl
    rw [hsi, h, small_toInt _ (by omega)]
    show min (n : ℕ) 8191 + 0 + 0 = (n : ℕ)
    omega
  · rw [GatherDims.start_batching _ _ _ _ (by decide)]
    unfold GatherDims.batchCoord
    rw [dif_pos (by decide)]
    show 0 + (e : ℕ) + 0 = (e : ℕ)
    omega

/-- The points drawn. -/
theorem pick_at (x : FVec Ideal S4x8192x32 .f32) (d : IVec S4x512x1 32) (b : Fin 4) (k : Fin 512) (e : Fin 32) (n : Fin 8192)
    (h : d (ix3 b k 0) = BitVec.ofNat 32 n) : pick x d (ix3 b k e) = x (ix3 b n e) := by
  have hw : wrap (table d) (ix4 b k e 0) = BitVec.ofNat 32 n := wrap_at _ b k e n ((table_at d b k e).trans h)
  have hi := inRange_at _ b k e n hw
  have hs : ∀ (c : IVec S4x512x32 1) (u v : FVec Ideal S4x512x32 .f32), c (ix3 b k e) = 1#1 → select c u v (ix3 b k e) = u (ix3 b k e) :=
    fun c u v h => by
      show Scalar.select (c (ix3 b k e)) _ _ = _
      rw [h]
      rfl
  unfold pick take
  exact (hs _ _ _ hi).trans (gather_at x _ b k e n hw)

/-- The squared distance, entry by entry, where points and centroids are real. -/
theorem dist_at (x : FVec Ideal S4x8192x32 .f32) (cen : FVec Ideal S4x512x32 .f32) (b : Fin 4) (y : Fin 8192 → Fin 32 → ℝ) (c : Fin 512 → Fin 32 → ℝ)
    (hx : ∀ n d, x (ix3 b n d) = ((y n d : ℝ) : EReal)) (hc : ∀ k d, cen (ix3 b k d) = ((c k d : ℝ) : EReal)) (n : Fin 8192) (k : Fin 512) :
    dist x cen (ix3 b n k) = (((∑ d, y n d * y n d) + dst c (y n) k : ℝ) : EReal) := by
  have h : dist x cen (ix3 b n k) = ((∑ d : Fin 32, x (ix3 b n d) * x (ix3 b n d)) + (∑ d : Fin 32, cen (ix3 b k d) * cen (ix3 b k d)) : EReal)
      - Ideal.ofBits .f32 0x40000000#32 * ∑ d : Fin 32, x (ix3 b n d) * cen (ix3 b k d) := by
    pointwise [dist, sqX, sqC]
  rw [h, word_two]
  simp only [hc, hx, ← EReal.coe_mul, coe_total, ← EReal.coe_add, ← EReal.coe_sub]
  rw [dst, add_sub_assoc]
  simp only [mul_comm (y n _) (c k _)]

/-- The centroids out of the segment sums, entry by entry. -/
theorem upd_at (x : FVec Ideal S4x8192x32 .f32) (a : IVec S4x8192 32) (d : IVec S4x512x1 32) (b : Fin 4) (k : Fin 512) (e : Fin 32) :
    upd x a d (ix3 b k e) = if cntR (F := Ideal) a (ix2 b k) = (0 : EReal) then pick x d (ix3 b k e)
      else Ideal.div (sumR x a (ix3 b k e)) (max 1 (cntR (F := Ideal) a (ix2 b k))) := by
  pointwise [upd, empR, meanR]

/-- A point's segment. -/
theorem ids_at (a : IVec S4x8192 32) (p : Fin 32768) : ids a (ix2 p 0)
    = a (ix2 ⟨p / 8192, by omega⟩ ⟨p % 8192, by omega⟩) + BitVec.ofNat 32 (p / 8192) * 512#32 := by
  pointwise [ids]
  rfl

/-- Where a row of updates lands. -/
theorem lands2 (i : IVec S32768x1 32) (p : Fin 32768) (e : Fin 32) (s : Fin 2048) (f : Fin 32) :
    scatter_S2048x32_S32768x1_S32768x32_1_0_0_1.resultIdx? (ix2 p e) i = some (ix2 s f) ↔ (i (ix2 p 0)).toInt = s ∧ e = f := by
  rw [Routing.resultIdx?_eq_some]
  have h0 : ScatterDims.start scatter_S2048x32_S32768x1_S32768x32_1_0_0_1 (ix2 p e) i 0 = (i (ix2 p 0)).toInt := by
    unfold ScatterDims.start
    rw [dif_pos (by decide)]
    refine congrArg (fun q => (i q).toInt) (funext fun q => Fin.ext ?_)
    match q with
    | ⟨0, _⟩ => rfl
    | ⟨1, _⟩ => rfl
  have h1 : ScatterDims.start scatter_S2048x32_S32768x1_S32768x32_1_0_0_1 (ix2 p e) i 1 = 0 := by
    unfold ScatterDims.start
    rw [dif_neg (by decide)]
  have w0 : ScatterDims.window scatter_S2048x32_S32768x1_S32768x32_1_0_0_1 (ix2 p e) 0 = 0 := by
    unfold ScatterDims.window
    rw [dif_neg (by decide)]
  have w1 : ScatterDims.window scatter_S2048x32_S32768x1_S32768x32_1_0_0_1 (ix2 p e) 1 = e := by
    unfold ScatterDims.window
    rw [dif_pos (by decide)]
    rfl
  constructor
  · intro h
    have g0 := h 0
    have g1 := h 1
    rw [h0, w0] at g0
    rw [h1, w1] at g1
    have g0 : (i (ix2 p 0)).toInt + ((0 : ℕ) : ℤ) = ((s : ℕ) : ℤ) := g0
    have g1 : (0 : ℤ) + ((e : ℕ) : ℤ) = ((f : ℕ) : ℤ) := g1
    exact ⟨by omega, Fin.ext (by omega)⟩
  · rintro ⟨g0, rfl⟩ q
    have hq : q = 0 ∨ q = 1 := by
      match q with
      | ⟨0, _⟩ => exact Or.inl rfl
      | ⟨1, _⟩ => exact Or.inr rfl
    rcases hq with rfl | rfl
    · rw [h0, w0]
      show (i (ix2 p 0)).toInt + ((0 : ℕ) : ℤ) = ((s : ℕ) : ℤ)
      omega
    · rw [h1, w1]
      show (0 : ℤ) + ((e : ℕ) : ℤ) = ((e : ℕ) : ℤ)
      omega

/-- Where a one lands. -/
theorem lands1 (i : IVec S32768x1 32) (p : Fin 32768) (s : Fin 2048) :
    scatter_S2048_S32768x1_S32768_n_0_0_1.resultIdx? (ix1 p) i = some (ix1 s) ↔ (i (ix2 p 0)).toInt = s := by
  rw [Routing.resultIdx?_eq_some]
  have h0 : ScatterDims.start scatter_S2048_S32768x1_S32768_n_0_0_1 (ix1 p) i 0 = (i (ix2 p 0)).toInt := by
    unfold ScatterDims.start
    rw [dif_pos (by decide)]
    refine congrArg (fun q => (i q).toInt) (funext fun q => Fin.ext ?_)
    match q with
    | ⟨0, _⟩ => rfl
    | ⟨1, _⟩ => rfl
  have w0 : ScatterDims.window scatter_S2048_S32768x1_S32768_n_0_0_1 (ix1 p) 0 = 0 := by
    unfold ScatterDims.window
    rw [dif_neg (by decide)]
  constructor
  · intro h
    have g0 := h 0
    rw [h0, w0] at g0
    have g0 : (i (ix2 p 0)).toInt + ((0 : ℕ) : ℤ) = ((s : ℕ) : ℤ) := g0
    omega
  · intro g0 q
    obtain rfl : q = 0 := Subsingleton.elim (α := Fin 1) q 0
    rw [h0, w0]
    show (i (ix2 p 0)).toInt + ((0 : ℕ) : ℤ) = ((s : ℕ) : ℤ)
    omega

/-- A point's segment, as a number. -/
theorem ids_num (a : IVec S4x8192 32) (f : Fin 4 → Fin 8192 → Fin 512) (ha : ∀ b n, a (ix2 b n) = BitVec.ofNat 32 (f b n)) (p : Fin 32768) :
    (ids a (ix2 p 0)).toInt = ((f ⟨p / 8192, by omega⟩ ⟨p % 8192, by omega⟩ : ℕ) + p / 8192 * 512 : ℕ) := by
  rw [ids_at, ha, show (512#32 : BitVec 32) = BitVec.ofNat 32 512 from rfl, ← BitVec.ofNat_mul, ← BitVec.ofNat_add, small_toInt _ (by omega)]

/-- The place of a point among all the sets' points. -/
def plc (b : Fin 4) (n : Fin 8192) : Fin 32768 := ⟨b * 8192 + n, by omega⟩
/-- The place of a centroid among all the sets' centroids. -/
def seg (b : Fin 4) (k : Fin 512) : Fin 2048 := ⟨b * 512 + k, by omega⟩

/-- A point's segment is its set's, at the centroid it is assigned to. -/
theorem ids_seg (a : IVec S4x8192 32) (f : Fin 4 → Fin 8192 → Fin 512) (ha : ∀ b n, a (ix2 b n) = BitVec.ofNat 32 (f b n)) (p : Fin 32768)
    (b : Fin 4) (k : Fin 512) : (ids a (ix2 p 0)).toInt = (seg b k : ℕ) ↔ ∃ n, p = plc b n ∧ f b n = k := by
  rw [ids_num a f ha]
  constructor
  · intro h
    have h : (f ⟨p / 8192, by omega⟩ ⟨p % 8192, by omega⟩ : ℕ) + p / 8192 * 512 = b * 512 + k := by exact_mod_cast h
    have hb : (⟨p / 8192, by omega⟩ : Fin 4) = b := Fin.ext (by simp only []; omega)
    refine ⟨⟨p % 8192, by omega⟩, Fin.ext ?_, ?_⟩
    · simp only [plc]
      have := congrArg Fin.val hb
      simp only [] at this
      omega
    · have hf : f ⟨p / 8192, by omega⟩ ⟨p % 8192, by omega⟩ = k := Fin.ext (by
        have := congrArg Fin.val hb
        simp only [] at this
        omega)
      exact (congrArg (fun b => f b ⟨p % 8192, by omega⟩) hb).symm.trans hf
  · rintro ⟨n, rfl, rfl⟩
    have e1 : (⟨(plc b n : ℕ) / 8192, by omega⟩ : Fin 4) = b := Fin.ext (by simp only [plc]; omega)
    have e2 : (⟨(plc b n : ℕ) % 8192, by omega⟩ : Fin 8192) = n := Fin.ext (by simp only [plc]; omega)
    rw [e1, e2]
    have e3 : (plc b n : ℕ) / 8192 = b := congrArg Fin.val e1
    rw [e3]
    simp only [seg]
    push_cast
    omega

/-- Points of one set at one place are one. -/
theorem plc_inj {b : Fin 4} {n n' : Fin 8192} (h : plc b n = plc b n') : n = n' := by
  have := congrArg Fin.val h
  simp only [plc] at this
  exact Fin.ext (by omega)

/-- The number of a centroid's points. -/
theorem cnt_at (a : IVec S4x8192 32) (f : Fin 4 → Fin 8192 → Fin 512) (ha : ∀ b n, a (ix2 b n) = BitVec.ofNat 32 (f b n)) (b : Fin 4) (k : Fin 512) :
    cntR (F := Ideal) a (ix2 b k) = ((Cert.Means.count (f b) k : ℝ) : EReal) := by
  have hs : ∀ v : FVec Ideal S2048 .f32, shapeCast S4x512 v shapeCasts_S2048_S4x512 (ix2 b k) = v (ix1 (seg b k)) := fun v => by
    pointwise [seg]
  rw [cntR, hs]
  show (Ideal.hostScatterAdd scatter_S2048_S32768x1_S32768_n_0_0_1 _ (ids a) _ (ix1 (seg b k)) : EReal) = _
  unfold Ideal.hostScatterAdd
  have h0 : (broadcastInDim S2048 ![] bcast_S_S2048 (constant S_ .f32 0x00000000#32) : FVec Ideal S2048 .f32) (ix1 (seg b k)) = (0 : EReal) := by
    pointwise
  have h1 : ∀ j, (broadcastInDim S32768 ![] bcast_S_S32768 (constant S_ .f32 0x3F800000#32) : FVec Ideal S32768 .f32) j = ((1 : ℝ) : EReal) := fun j => by
    rw [EReal.coe_one]
    pointwise
  rw [h0, zero_add, Cert.Means.count, ← Finset.sum_filter, ← coe_total]
  refine (Finset.sum_bij (fun n _ => ix1 (plc b n)) (fun n hn => ?_) (fun n _ n' _ h => ?_) (fun j hj => ?_) (fun n _ => ?_)).symm
  · exact Finset.mem_filter.mpr ⟨Finset.mem_univ _, (lands1 _ _ _).mpr ((ids_seg a f ha _ b k).mpr ⟨n, rfl, (Finset.mem_filter.mp hn).2⟩)⟩
  · exact plc_inj (congrFun h 0)
  · have hj := (Finset.mem_filter.mp hj).2
    rw [ValueIdx.eq_ix1 j] at hj ⊢
    obtain ⟨n, hn, hk⟩ := (ids_seg a f ha _ b k).mp ((lands1 _ _ _).mp hj)
    exact ⟨n, Finset.mem_filter.mpr ⟨Finset.mem_univ _, hk⟩, congrArg ix1 hn.symm⟩
  · exact (h1 _).symm

/-- The sum of a centroid's points. -/
theorem sum_at (x : FVec Ideal S4x8192x32 .f32) (y : Fin 8192 → Fin 32 → ℝ) (a : IVec S4x8192 32) (f : Fin 4 → Fin 8192 → Fin 512)
    (ha : ∀ b n, a (ix2 b n) = BitVec.ofNat 32 (f b n)) (b : Fin 4) (hx : ∀ n d, x (ix3 b n d) = ((y n d : ℝ) : EReal)) (k : Fin 512) (d : Fin 32) :
    sumR x a (ix3 b k d) = ((total y (f b) k d : ℝ) : EReal) := by
  have hs : ∀ v : FVec Ideal S2048x32 .f32, shapeCast S4x512x32 v shapeCasts_S2048x32_S4x512x32 (ix3 b k d) = v (ix2 (seg b k) d) := fun v => by
    pointwise [seg]
  have hu : ∀ n, (shapeCast S32768x32 x shapeCasts_S4x8192x32_S32768x32 : FVec Ideal S32768x32 .f32) (ix2 (plc b n) d) = ((y n d : ℝ) : EReal) := fun n => by
    rw [← hx]
    pointwise [plc]
  rw [sumR, hs]
  show (Ideal.hostScatterAdd scatter_S2048x32_S32768x1_S32768x32_1_0_0_1 _ (ids a) _ (ix2 (seg b k) d) : EReal) = _
  unfold Ideal.hostScatterAdd
  have h0 : (broadcastInDim S2048x32 ![] bcast_S_S2048x32 (constant S_ .f32 0x00000000#32) : FVec Ideal S2048x32 .f32) (ix2 (seg b k) d) = (0 : EReal) := by
    pointwise
  rw [h0, zero_add, total, ← Finset.sum_filter, ← coe_total]
  refine (Finset.sum_bij (fun n _ => ix2 (plc b n) d) (fun n hn => ?_) (fun n _ n' _ h => ?_) (fun j hj => ?_) (fun n _ => ?_)).symm
  · exact Finset.mem_filter.mpr ⟨Finset.mem_univ _, (lands2 _ _ _ _ _).mpr
      ⟨(ids_seg a f ha _ b k).mpr ⟨n, rfl, (Finset.mem_filter.mp hn).2⟩, rfl⟩⟩
  · exact plc_inj (congrFun h 0)
  · have hj := (Finset.mem_filter.mp hj).2
    rw [ValueIdx.eq_ix2 j] at hj ⊢
    obtain ⟨h, hd⟩ := (lands2 _ _ _ _ _).mp hj
    obtain ⟨n, hn, hk⟩ := (ids_seg a f ha _ b k).mp h
    exact ⟨n, Finset.mem_filter.mpr ⟨Finset.mem_univ _, hk⟩, congrArg₂ ix2 hn.symm hd.symm⟩
  · exact (hu n).symm

/-- A renewal of the centroids, over one set. -/
theorem upd_next (x : FVec Ideal S4x8192x32 .f32) (y : Fin 8192 → Fin 32 → ℝ) (a : IVec S4x8192 32) (f : Fin 4 → Fin 8192 → Fin 512)
    (ha : ∀ b n, a (ix2 b n) = BitVec.ofNat 32 (f b n)) (b : Fin 4) (hx : ∀ n d, x (ix3 b n d) = ((y n d : ℝ) : EReal))
    (d : IVec S4x512x1 32) (r : Fin 512 → Fin 8192) (hr : ∀ k, d (ix3 b k 0) = BitVec.ofNat 32 (r k)) (k : Fin 512) (e : Fin 32) :
    upd x a d (ix3 b k e) = ((next y (f b) r k e : ℝ) : EReal) := by
  rw [upd_at, cnt_at a f ha, sum_at x y a f ha b hx, pick_at x d b k e _ (hr k), hx, next]
  by_cases hz : Cert.Means.count (f b) k = 0
  · rw [if_pos (by rw [hz]; rfl), if_pos hz]
  · rw [if_neg (fun h => hz (by exact_mod_cast h)), if_neg hz, ← EReal.coe_one, ← EReal.coe_strictMono.monotone.map_max, max_comm,
      div_real _ _ (ne_of_gt (lt_of_lt_of_le one_pos (le_max_right _ _)))]

end Cert.ReferenceIdeal.Km

end
-- ==== Proof.RAsg.lean ====
/-
  The reference's search for the nearest centroid, its rounds and its two results, on real points.
-/
module

public import proofs.«01_k».proof.Proof.RVal

@[expose] public section

set_option maxRecDepth 16384

noncomputable section

namespace Cert.ReferenceIdeal.Km

open Cert.ReferenceIdeal Cert.ReferenceIdeal.Gen Cert.Means
open Idealize.ShloMosaic

/-- The choice between two pairs: the lesser value, and on equal values the lesser number. -/
theorem lesser_eq (u v : EReal) (i j : BitVec 32) : reducer_argmin_f32_i32 (F := Ideal) (u, i) (v, j)
    = (if u < v then u else v, if u < v ∨ (u = v ∧ i.slt j = true) then i else j) := by
  unfold reducer_argmin_f32_i32
  simp only [Ideal.cmpf_def, Ideal.cmp, IntOp.ori, IntOp.andi, IntOp.cmpi, Scalar.select]
  by_cases h1 : u < v <;> by_cases h2 : u = v <;> by_cases h3 : i.slt j = true <;> simp [h1, h2, h3]

/-- The pair of a centroid: its distance and its number. -/
def pairOf (g : Fin 512 → ℝ) (k : Fin 512) : EReal × BitVec 32 := (((g k : ℝ) : EReal), BitVec.ofNat 32 k)

/-- Pairs of one distance and one number are of one centroid. -/
theorem pairOf_inj {g : Fin 512 → ℝ} {j k : Fin 512} (h : pairOf g j = pairOf g k) : j = k :=
  Fin.ext ((ofNat_inj (by omega) (by omega)).mp (congrArg Prod.snd h))

/-- What the search holds after the centroids in `S`: the first nearest of them, or the start where there is none. -/
def Held (g : Fin 512 → ℝ) (S : Fin 512 → Prop) (p : EReal × BitVec 32) : Prop :=
  ((∀ j, ¬ S j) ∧ p = (⊤, 0#32)) ∨ ∃ a, S a ∧ p = pairOf g a ∧ ∀ j, S j → g a < g j ∨ (g a = g j ∧ a ≤ j)

/-- A step of the search. -/
theorem held_step (g : Fin 512 → ℝ) (S : Fin 512 → Prop) (p : EReal × BitVec 32) (h : Held g S p) (k : Fin 512) :
    Held g (fun j => S j ∨ pairOf g j = pairOf g k) (reducer_argmin_f32_i32 (F := Ideal) p (pairOf g k)) := by
  rcases h with ⟨h0, rfl⟩ | ⟨a, ha, rfl, hm⟩
  · refine Or.inr ⟨k, Or.inr rfl, ?_, fun j hj => ?_⟩
    · rw [pairOf, lesser_eq, if_neg not_top_lt, if_neg (by rintro (h | ⟨h, -⟩); exacts [not_top_lt h, EReal.coe_ne_top _ h.symm])]
    · rcases hj with hj | hj
      · exact absurd hj (h0 j)
      · rw [pairOf_inj hj]; exact Or.inr ⟨rfl, le_refl _⟩
  · have hs : (BitVec.ofNat 32 a).slt (BitVec.ofNat 32 k) = true ↔ a < k := by
      rw [BitVec.slt_iff_toInt_lt, small_toInt _ (by omega), small_toInt _ (by omega)]
      omega
    have hl : ((g a : ℝ) : EReal) < ((g k : ℝ) : EReal) ↔ g a < g k := EReal.coe_lt_coe_iff
    have he : ((g a : ℝ) : EReal) = ((g k : ℝ) : EReal) ↔ g a = g k := EReal.coe_eq_coe_iff
    have hr : reducer_argmin_f32_i32 (F := Ideal) (pairOf g a) (pairOf g k)
        = if g a < g k ∨ (g a = g k ∧ a < k) then pairOf g a else pairOf g k := by
      rw [pairOf, pairOf, lesser_eq]
      simp only [hs, hl, he]
      by_cases h1 : g a < g k
      · simp [h1]
      · by_cases h2 : g a = g k ∧ a < k
        · simp [h2]
        · simp [h1, h2]
    rw [hr]
    by_cases hc : g a < g k ∨ (g a = g k ∧ a < k)
    · rw [if_pos hc]
      refine Or.inr ⟨a, Or.inl ha, rfl, fun j hj => ?_⟩
      rcases hj with hj | hj
      · exact hm j hj
      · rw [pairOf_inj hj]
        exact hc.imp id fun h => ⟨h.1, le_of_lt h.2⟩
    · rw [if_neg hc]
      refine Or.inr ⟨k, Or.inr rfl, rfl, fun j hj => ?_⟩
      rcases hj with hj | hj
      · have hka : g k < g a ∨ (g k = g a ∧ k ≤ a) := by
          rcases lt_trichotomy (g a) (g k) with h | h | h
          · exact absurd (Or.inl h) hc
          · exact Or.inr ⟨h.symm, not_lt.mp fun h' => hc (Or.inr ⟨h, h'⟩)⟩
          · exact Or.inl h
        rcases hka with h1 | ⟨h1, h2⟩ <;> rcases hm j hj with h3 | ⟨h3, h4⟩
        · exact Or.inl (h1.trans h3)
        · exact Or.inl (h3 ▸ h1)
        · exact Or.inl (h1 ▸ h3)
        · exact Or.inr ⟨h1.trans h3, h2.trans h4⟩
      · rw [pairOf_inj hj]; exact Or.inr ⟨rfl, le_refl _⟩

/-- The search through a list. -/
theorem held_list (g : Fin 512 → ℝ) (L : List (EReal × BitVec 32)) : ∀ (S : Fin 512 → Prop) (p : EReal × BitVec 32),
    (∀ q ∈ L, ∃ k, q = pairOf g k) → Held g S p →
    Held g (fun j => S j ∨ pairOf g j ∈ L) (L.foldl (reducer_argmin_f32_i32 (F := Ideal)) p) := by
  induction L with
  | nil =>
    intro S p _ h
    simpa using h
  | cons q L ih =>
    intro S p hL h
    obtain ⟨k, rfl⟩ := hL q (by simp)
    have := ih _ _ (fun q hq => hL q (by simp [hq])) (held_step g S p h k)
    simpa only [List.foldl_cons, List.mem_cons, or_assoc] using this

/-- The search through every centroid finds the first nearest. -/
theorem held_all (g : Fin 512 → ℝ) (S : Fin 512 → Prop) (p : EReal × BitVec 32) (hS : ∀ j, S j) (h : Held g S p) :
    p.2 = BitVec.ofNat 32 (first g) := by
  rcases h with ⟨h, -⟩ | ⟨a, -, rfl, hm⟩
  · exact absurd (hS 0) (h 0)
  · rw [first_eq (f := g) (a := a) ⟨fun j => ?_, fun j hj => ?_⟩]
    · rfl
    · rcases hm j (hS j) with h | h
      · exact le_of_lt h
      · exact le_of_eq h.1
    · rcases hm j (hS j) with h | h
      · exact h
      · exact absurd h.2 (not_le.mpr hj)

/-- The pairs a search along an axis reads. -/
theorem mem_fiber {α β : Type} {s t : Shape} {axes : List (Fin s.rank)} (x : s.Idx → α) (y : s.Idx → β) (h : s.ReducesTo axes t) (j : t.Idx) (p : α × β) :
    p ∈ Host.argReduceFiber x y h j ↔ ∃ z, h.drop z = j ∧ p = (x z, y z) := by
  unfold Host.argReduceFiber
  simp only [List.mem_map, List.mem_filter, List.mem_finRange, true_and, decide_eq_true_eq]
  constructor
  · rintro ⟨i, hi, rfl⟩
    exact ⟨_, hi, rfl⟩
  · rintro ⟨z, hz, rfl⟩
    exact ⟨s.rowMajor z, by rwa [Equiv.symm_apply_apply], by rw [Equiv.symm_apply_apply]⟩

/-- A search along an axis whose pairs are the centroids' finds the first nearest. -/
theorem search_eq {s t u : Shape} {axes : List (Fin s.rank)} (D : FVec Ideal s .f32) (Y : IVec s 32) (ix : FVec Ideal u .f32) (iy : IVec u 32)
    (h : s.ReducesTo axes t) (hu : 0 < u.numel) (j : t.Idx) (g : Fin 512 → ℝ)
    (h0 : ((ix (Shape.Idx.first hu), iy (Shape.Idx.first hu)) : EReal × BitVec 32) = (⊤, 0#32))
    (hall : ∀ k, ∃ z, h.drop z = j ∧ ((D z, Y z) : EReal × BitVec 32) = pairOf g k)
    (honly : ∀ z, h.drop z = j → ∃ k, ((D z, Y z) : EReal × BitVec 32) = pairOf g k) :
    (Host.argReduce reducer_argmin_f32_i32 D Y ix iy h hu j).2 = BitVec.ofNat 32 (first g) := by
  rw [Ideal.argReduce_eq_reduce2, Host.reduce2_eq_foldl_fiber]
  refine held_all g _ _ (fun k => ?_) (held_list g (Host.argReduceFiber D Y h j) (fun _ => False) _ (fun q hq => ?_) (Or.inl ⟨fun _ h => h, h0⟩))
  · obtain ⟨z, hz, hk⟩ := hall k
    exact Or.inr ((mem_fiber D Y h j _).mpr ⟨z, hz, hk.symm⟩)
  · obtain ⟨z, hz, rfl⟩ := (mem_fiber D Y h j _).mp hq
    exact honly z hz

/-- Which distances a point's search reads: its own. -/
theorem drop_at (b : Fin 4) (n : Fin 8192) (k : Fin 512) : reducesTo_S4x8192x512_S4x8192_d2.drop (ix3 b n k) = ix2 b n := by
  refine funext fun q => Fin.ext ?_
  match q with
  | ⟨0, _⟩ => rfl
  | ⟨1, _⟩ => rfl

/-- The pair the search reads at a centroid. -/
theorem pair_at (x : FVec Ideal S4x8192x32 .f32) (cen : FVec Ideal S4x512x32 .f32) (b : Fin 4) (y : Fin 8192 → Fin 32 → ℝ) (c : Fin 512 → Fin 32 → ℝ)
    (hx : ∀ n d, x (ix3 b n d) = ((y n d : ℝ) : EReal)) (hc : ∀ k d, cen (ix3 b k d) = ((c k d : ℝ) : EReal)) (n : Fin 8192) (k : Fin 512) :
    ((dist x cen (ix3 b n k), iotaInDim S4x8192x512 32 2 (ix3 b n k)) : EReal × BitVec 32)
      = pairOf (fun k => (∑ d, y n d * y n d) + dst c (y n) k) k :=
  Prod.ext (dist_at x cen b y c hx hc n k) rfl

/-- What the search starts from. -/
theorem start_at : ((constant S_ .f32 0x7F800000#32 : FVec Ideal S_ .f32) (Shape.Idx.first h_S_), (constantI S_ 32 0#32 : IVec S_ 32) (Shape.Idx.first h_S_))
      = ((⊤, 0#32) : EReal × BitVec 32) := Prod.ext word_top rfl

/-- The assignments, as the search's numbers. -/
theorem asg_fun (x : FVec Ideal S4x8192x32 .f32) (cen : FVec Ideal S4x512x32 .f32) : asg x cen = fun j =>
    (Host.argReduce (F := Ideal) (φ := .f32) reducer_argmin_f32_i32 (dist x cen) (iotaInDim S4x8192x512 32 2)
      (constant S_ .f32 0x7F800000#32) (constantI S_ 32 0#32) reducesTo_S4x8192x512_S4x8192_d2 h_S_ j).2 := rfl

/-- The assignment of a point, where points and centroids are real. -/
theorem asg_at (x : FVec Ideal S4x8192x32 .f32) (cen : FVec Ideal S4x512x32 .f32) (b : Fin 4) (y : Fin 8192 → Fin 32 → ℝ) (c : Fin 512 → Fin 32 → ℝ)
    (hx : ∀ n d, x (ix3 b n d) = ((y n d : ℝ) : EReal)) (hc : ∀ k d, cen (ix3 b k d) = ((c k d : ℝ) : EReal)) (n : Fin 8192) :
    asg x cen (ix2 b n) = BitVec.ofNat 32 (near c y n) := by
  have hp := pair_at x cen b y c hx hc n
  rw [near, ← first_add _ (∑ d, y n d * y n d), asg_fun]
  refine search_eq (dist x cen) (iotaInDim S4x8192x512 32 2) _ _ reducesTo_S4x8192x512_S4x8192_d2 h_S_ (ix2 b n) _ start_at
    (fun k => ⟨ix3 b n k, drop_at b n k, hp k⟩) (fun z hz => ?_)
  obtain ⟨b', n', k', rfl⟩ : ∃ (b' : Fin 4) (n' : Fin 8192) (k' : Fin 512), z = ix3 b' n' k' := ⟨z 0, z 1, z 2, ValueIdx.eq_ix3 z⟩
  rw [drop_at] at hz
  obtain rfl : b' = b := congrFun hz 0
  obtain rfl : n' = n := congrFun hz 1
  exact ⟨k', hp k'⟩

/-- One round, over one set. -/
theorem rnd_at (x : FVec Ideal S4x8192x32 .f32) (y : Fin 4 → Fin 8192 → Fin 32 → ℝ) (cen : FVec Ideal S4x512x32 .f32) (c : Fin 4 → Fin 512 → Fin 32 → ℝ)
    (hx : ∀ b n d, x (ix3 b n d) = ((y b n d : ℝ) : EReal)) (hc : ∀ b k d, cen (ix3 b k d) = ((c b k d : ℝ) : EReal))
    (d : IVec S4x512x1 32) (r : Fin 4 → Fin 512 → Fin 8192) (hr : ∀ b k, d (ix3 b k 0) = BitVec.ofNat 32 (r b k))
    (b : Fin 4) (k : Fin 512) (e : Fin 32) : rnd x cen d (ix3 b k e) = ((turn (y b) (r b) (c b) k e : ℝ) : EReal) :=
  upd_next x (y b) (asg x cen) (fun b => near (c b) (y b)) (fun b n => asg_at x cen b (y b) (c b) (hx b) (hc b) n) b (hx b) d (r b) (hr b) k e

/-- The first round's draws, entry by entry; -/
theorem draw0_at (r : IVec S4x512x4 32) (b : Fin 4) (k : Fin 512) : draw0 r (ix3 b k 0) = r (ix3 b k 0) := by pointwise [draw0]
/-- the second's; -/
theorem draw1_at (r : IVec S4x512x4 32) (b : Fin 4) (k : Fin 512) : draw1 r (ix3 b k 0) = r (ix3 b k 1) := by pointwise [draw1]
/-- the third's; -/
theorem draw2_at (r : IVec S4x512x4 32) (b : Fin 4) (k : Fin 512) : draw2 r (ix3 b k 0) = r (ix3 b k 2) := by pointwise [draw2]
/-- the fourth's. -/
theorem draw3_at (r : IVec S4x512x4 32) (b : Fin 4) (k : Fin 512) : draw3 r (ix3 b k 0) = r (ix3 b k 3) := by pointwise [draw3]

section results

variable (x : FVec Ideal S4x8192x32 .f32) (c : IVec S4x512x1 32) (r : IVec S4x512x4 32)
  (y : Fin 4 → Fin 8192 → Fin 32 → ℝ) (q : Fin 4 → Fin 512 → Fin 8192) (s : Fin 4 → Fin 4 → Fin 512 → Fin 8192)
  (hx : ∀ b n d, x (ix3 b n d) = ((y b n d : ℝ) : EReal)) (hq : ∀ b k, c (ix3 b k 0) = BitVec.ofNat 32 (q b k))
  (hr : ∀ b k i, r (ix3 b k i) = BitVec.ofNat 32 (s b i k))
include hx hq hr

/-- The centroids before the last round. -/
theorem cen3_at (b : Fin 4) (k : Fin 512) (e : Fin 32) : cen3 x c r (ix3 b k e) = ((three (y b) (q b) (s b) k e : ℝ) : EReal) := by
  have h0 : ∀ b k e, pick x c (ix3 b k e) = ((y b (q b k) e : ℝ) : EReal) := fun b k e => (pick_at x c b k e _ (hq b k)).trans (hx _ _ _)
  have h1 := rnd_at x y _ (fun b k e => y b (q b k) e) hx h0 (draw0 r) (fun b => s b 0) (fun b k => (draw0_at r b k).trans (hr b k 0))
  have h2 := rnd_at x y _ _ hx h1 (draw1 r) (fun b => s b 1) (fun b k => (draw1_at r b k).trans (hr b k 1))
  exact rnd_at x y _ _ hx h2 (draw2 r) (fun b => s b 2) (fun b k => (draw2_at r b k).trans (hr b k 2)) b k e

/-- The first result: the centroids after the last round. -/
theorem result_cen : rnd x (cen3 x c r) (draw3 r)
    = (fun j : S4x512x32.Idx => ((turn (y (j 0)) (s (j 0) 3) (three (y (j 0)) (q (j 0)) (s (j 0))) (j 1) (j 2) : ℝ) : EReal)) := by
  funext j
  rw [ValueIdx.eq_ix3 j]
  exact rnd_at x y _ _ hx (cen3_at x c r y q s hx hq hr) (draw3 r) (fun b => s b 3) (fun b k => (draw3_at r b k).trans (hr b k 3)) _ _ _

/-- The second result: the last round's assignments. -/
theorem result_asg : asg x (cen3 x c r)
    = (fun j : S4x8192.Idx => BitVec.ofNat 32 (near (three (y (j 0)) (q (j 0)) (s (j 0))) (y (j 0)) (j 1))) := by
  funext j
  rw [ValueIdx.eq_ix2 j]
  exact asg_at x _ _ _ _ (hx _) (cen3_at x c r y q s hx hq hr _) _

end results

end Cert.ReferenceIdeal.Km

end
-- ==== Proof.Pre.lean ====
/-
  What the precondition says of the three arguments: the points are real and every index names a point.
-/
module

public import proofs.«01_k».proof.Pre_points_and_draws
public import proofs.«01_k».proof.Proof.Math
public import Idealize.ShloMosaic.Lib.ReduceAll

@[expose] public section

noncomputable section

namespace Cert.Means

open Idealize.ShloMosaic Cert.Pre_points_and_draws

/-- The shape facts the precondition states. -/
theorem pre_facts : Cert.Pre_points_and_draws.Facts where
  bcast_S_S4x8192x32 := by decide
  reducesTo_S4x8192x32_S_d0_1_2 := by decide
  h_S_ := by decide
  bcast_S_S4x512x1 := by decide
  reducesTo_S4x512x1_S_d0_1_2 := by decide
  bcast_S_S4x512x4 := by decide
  reducesTo_S4x512x4_S_d0_1_2 := by decide

/-- The result of the precondition has one place. -/
theorem one_place : Subsingleton S_.Idx := ⟨fun a b => funext fun q => q.elim0⟩

/-- An extended real below plus infinity in absolute value is a real. -/
theorem real_of_abs (v : EReal) (h : Ideal.cmp .olt (max v (-v)) (Ideal.ofBits .f32 0x7F800000#32) = 1#1) : v = ((v.toReal : ℝ) : EReal) := by
  rw [word_top] at h
  have h : max v (-v) < ⊤ := by
    by_contra hn
    simp [Ideal.cmp, hn] at h
  refine (EReal.coe_toReal (fun ht => ?_) (fun hb => ?_)).symm
  · rw [ht] at h
    exact absurd h (by simp)
  · rw [hb] at h
    exact absurd h (by simp)

/-- A word at least zero and less than 8192, read signed, is a point's number. -/
theorem num_of_range (w : BitVec 32) (h : IntOp.andi (IntOp.cmpi .sge w 0#32) (IntOp.cmpi .slt w 8192#32) = 1#1) :
    ∃ n : Fin 8192, w = BitVec.ofNat 32 n := by
  obtain ⟨h1, h2⟩ := IntOp.andi_eq_one.1 h
  have h0 : (0#32 : BitVec 32).toInt = 0 := by decide
  have h8 : (8192#32 : BitVec 32).toInt = 8192 := by decide
  have g1 : 0 ≤ w.toInt := by
    by_contra hn
    have : (0#32 : BitVec 32).sle w = false := by rw [BitVec.sle, h0]; exact decide_eq_false hn
    simp [IntOp.cmpi, this] at h1
  have g2 : w.toInt < 8192 := by
    by_contra hn
    have : w.slt 8192#32 = false := by rw [BitVec.slt, h8]; exact decide_eq_false hn
    simp [IntOp.cmpi, this] at h2
  rw [BitVec.toInt_eq_toNat_cond] at g1 g2
  have hw := w.isLt
  have hl : w.toNat < 8192 := by
    split at g2 <;> split at g1 <;> omega
  exact ⟨⟨w.toNat, hl⟩, by simp⟩

/-- What the precondition says. -/
theorem pre_reads [Cert.Pre_points_and_draws.Facts] (x : FVec Ideal S4x8192x32 .f32) (c : IVec S4x512x1 32) (r : IVec S4x512x4 32)
    (h : Cert.Pre_points_and_draws.fn (F := Ideal) x c r = fun _ => 1#1) :
    (∃ y : Fin 4 → Fin 8192 → Fin 32 → ℝ, ∀ b n d, x (ix3 b n d) = ((y b n d : ℝ) : EReal))
    ∧ (∃ q : Fin 4 → Fin 512 → Fin 8192, ∀ b k, c (ix3 b k 0) = BitVec.ofNat 32 (q b k))
    ∧ (∃ s : Fin 4 → Fin 4 → Fin 512 → Fin 8192, ∀ b k i, r (ix3 b k i) = BitVec.ofNat 32 (s b i k)) := by
  have hS := one_place
  have h := congrFun h (fun q => q.elim0)
  simp only [Cert.Pre_points_and_draws.fn, Cert.Pre_points_and_draws.fn_part1] at h
  obtain ⟨h12, h3⟩ := IntOp.andi_eq_one.1 h
  obtain ⟨h1, h2⟩ := IntOp.andi_eq_one.1 h12
  refine ⟨⟨fun b n d => (x (ix3 b n d) : EReal).toReal, fun b n d => ?_⟩, ?_, ?_⟩
  · exact real_of_abs _ (Host.reduce_andi_all _ _ _ _ _ h1 (ix3 b n d))
  · have := fun b k => num_of_range _ (Host.reduce_andi_all _ _ _ _ _ h2 (ix3 b k 0))
    choose q hq using this
    exact ⟨q, hq⟩
  · have := fun b i k => num_of_range _ (Host.reduce_andi_all _ _ _ _ _ h3 (ix3 b k i))
    choose s hs using this
    exact ⟨s, fun b k i => hs b i k⟩

end Cert.Means

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.KArr
public import proofs.«01_k».proof.Proof.RefRun
public import proofs.«01_k».proof.Proof.RAsg
public import proofs.«01_k».proof.Proof.Pre
public import Idealize.ShloMosaic.Adequacy
public import Idealize.ShloMosaic.Init

@[expose] public section

noncomputable section

namespace Cert.Proof

open Idealize.ShloMosaic Idealize.SL.Sem

/-- The precondition's shape facts, as the instance its reading takes. -/
instance preFacts : Cert.Pre_points_and_draws.Facts := Cert.Means.pre_facts

/-- The kernel's body table is one text at the words of the machine and over the extended reals: at the words the two are one. -/
theorem bodies_eq : @Cert.KernelIdeal.defs₀ Bits _ _ = @Cert.Kernel.defs₀ Bits _ _ := by
  unfold Cert.KernelIdeal.defs₀ Cert.Kernel.defs₀
  refine congrArg Defs.onTc ?_
  funext l x
  obtain ⟨_ | n, hn⟩ := l
  · rfl
  · exact absurd hn (by omega)

/-- So are the tables with the pipeline's regions. -/
theorem tables_eq : @Cert.KernelIdeal.defs Bits _ _ = @Cert.Kernel.defs Bits _ _ :=
  congrArg (Pipeline.defs (Cert.KernelIdeal.pcfgs (F := Bits))) bodies_eq

/-- The kernel, at the words of the machine, runs and leaves its arguments as they were. -/
theorem frame_kernel : Cert.quiescent_Kernel := fun m ρ _ =>
  (congrArg (fun d => θ_run d (onTc (τ := Cert.KernelIdeal.τ) (Cert.KernelIdeal.main (F := Bits))) ⟨m, fun _ => 0, ρ⟩ _) tables_eq).mp
    (Cert.KernelIdeal.Km.frame_any (F := Bits) m ρ)

/-- So does it over the extended reals. -/
theorem frame_ideal : Cert.quiescent_KernelIdeal := fun m ρ _ => Cert.KernelIdeal.Km.frame_any (F := Ideal) m ρ

/-- So does it where the precondition holds. -/
theorem frame_ideal_pre : Cert.quiescent_KernelIdeal_pre_points_and_draws := fun m ρ _ => Cert.KernelIdeal.Km.frame_any (F := Ideal) m ρ

/-- The reference runs and leaves its arguments as they were. -/
theorem frame_reference : Cert.quiescent_ReferenceIdeal := fun m ρ _ =>
  (θ_run Cert.ReferenceIdeal.defs _ _).mono (fun _ h => ⟨fun c => (h.1 c).2, h.2⟩) (Cert.ReferenceIdeal.Km.run_ref (F := Ideal) m ρ)

/-- So does it where the precondition holds. -/
theorem frame_reference_pre : Cert.quiescent_ReferenceIdeal_pre_points_and_draws := fun m ρ _ => frame_reference m ρ trivial

/-- On real points, with indices that name points, kernel and reference end with equal centroids and equal assignments. -/
theorem results_equal : Cert.algebraic_KernelIdeal_ReferenceIdeal_pre_points_and_draws := by
  intro m ρ m' ρ' hpre hargs
  have hp := fun c => Cert.Means.pre_reads _ _ _ (hpre c)
  choose x hx using fun c => (hp c).1
  choose q hq using fun c => (hp c).2.1
  choose r hr using fun c => (hp c).2.2
  refine ⟨_, _, Cert.KernelIdeal.Km.run_real m ρ x q r hx hq hr, ?_⟩
  refine (θ_run Cert.ReferenceIdeal.defs _ _).mono (fun s h c => ⟨?_, ?_, (h.1 c).2⟩) (Cert.ReferenceIdeal.Km.run_ref (F := Ideal) m' ρ')
  · refine (h.1 c).1.1.trans ?_
    rw [(hargs c).1, (hargs c).2.1, (hargs c).2.2]
    exact Cert.ReferenceIdeal.Km.result_cen _ _ _ (x c) (q c) (r c) (hx c) (hq c) (hr c)
  · refine (h.1 c).1.2.trans ?_
    rw [(hargs c).1, (hargs c).2.1, (hargs c).2.2]
    exact Cert.ReferenceIdeal.Km.result_asg _ _ _ (x c) (q c) (r c) (hx c) (hq c) (hr c)

/-- Everything claimed. -/
theorem claim : Cert.Claim := ⟨Cert.Kernel.Gen.facts, Cert.KernelIdeal.Gen.facts, Cert.ReferenceIdeal.Gen.facts, preFacts,
  frame_kernel, frame_ideal, frame_ideal_pre, frame_reference, frame_reference_pre, trivial, results_equal⟩

end Cert.Proof

end
